-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v264)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v264) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x1x1024 : Shape := ⟨3, ![4096, 1, 1024]⟩
abbrev S1024x1024x3 : Shape := ⟨3, ![1024, 1024, 3]⟩
abbrev S1024 : Shape := ⟨1, ![1024]⟩
abbrev S1024x1024x1 : Shape := ⟨3, ![1024, 1024, 1]⟩
abbrev S48x1024x1 : Shape := ⟨3, ![48, 1024, 1]⟩
abbrev S48 : Shape := ⟨1, ![48]⟩
abbrev S65x1024x1 : Shape := ⟨3, ![65, 1024, 1]⟩
abbrev S65 : Shape := ⟨1, ![65]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4096x1x1024 : S_.BroadcastsInDim S4096x1x1024 (![] : Fin 0 → Fin S4096x1x1024.rank)
  reducesTo_S4096x1x1024_S_d0_1_2 : S4096x1x1024.ReducesTo [0, 1, 2] S_
  bcast_S_S1024x1024x3 : S_.BroadcastsInDim S1024x1024x3 (![] : Fin 0 → Fin S1024x1024x3.rank)
  reducesTo_S1024x1024x3_S_d0_1_2 : S1024x1024x3.ReducesTo [0, 1, 2] S_
  bcast_S_S1024x1024x1 : S_.BroadcastsInDim S1024x1024x1 (![] : Fin 0 → Fin S1024x1024x1.rank)
  reducesTo_S1024x1024x1_S_d0_1_2 : S1024x1024x1.ReducesTo [0, 1, 2] S_
  bcast_S_S48x1024x1 : S_.BroadcastsInDim S48x1024x1 (![] : Fin 0 → Fin S48x1024x1.rank)
  reducesTo_S48x1024x1_S_d0_1_2 : S48x1024x1.ReducesTo [0, 1, 2] S_
  bcast_S_S65x1024x1 : S_.BroadcastsInDim S65x1024x1 (![] : Fin 0 → Fin S65x1024x1.rank)
  reducesTo_S65x1024x1_S_d0_1_2 : S65x1024x1.ReducesTo [0, 1, 2] S_

variable [Facts]

def fn_part2 {F : FTy → Type} [FloatOps F] (main_arg11 : FVec F S65x1024x1 .f32) (main_v31 : IVec S_ 1) (main_v32 : FVec F S1024x1024x1 .f32) (main_cst_12 : FVec F S_ .f32) : IVec S_ 1 :=
  let main_v33 : FVec F S1024x1024x1 .f32 := broadcastInDim S1024x1024x1 ![] bcast_S_S1024x1024x1 main_cst_12
  let main_v34 : IVec S1024x1024x1 1 := cmpf .olt main_v32 main_v33
  let main_c_13 : IVec S_ 1 := constantI S_ 1 1#1
  let main_v35 : IVec S_ 1 := (fun x v => Host.reduce IntOp.andi x v reducesTo_S1024x1024x1_S_d0_1_2 h_S_) main_v34 main_c_13
  let main_v36 : IVec S_ 1 := andi main_v31 main_v35
  let main_v37 : FVec F S65x1024x1 .f32 := Host.absf main_arg11
  let main_cst_14 : FVec F S_ .f32 := constant S_ .f32 0x7F800000#32
  let main_v38 : FVec F S65x1024x1 .f32 := broadcastInDim S65x1024x1 ![] bcast_S_S65x1024x1 main_cst_14
  let main_v39 : IVec S65x1024x1 1 := cmpf .olt main_v37 main_v38
  let main_c_15 : IVec S_ 1 := constantI S_ 1 1#1
  let main_v40 : IVec S_ 1 := (fun x v => Host.reduce IntOp.andi x v reducesTo_S65x1024x1_S_d0_1_2 h_S_) main_v39 main_c_15
  let main_v41 : IVec S_ 1 := andi main_v36 main_v40
  main_v41

def fn_part1 {F : FTy → Type} [FloatOps F] (main_arg3 : FVec F S1024x1024x1 .f32) (main_arg5 : FVec F S48x1024x1 .f32) (main_arg7 : FVec F S1024x1024x3 .f32) (main_arg9 : FVec F S1024x1024x1 .f32) (main_arg11 : FVec F S65x1024x1 .f32) (main_v11 : IVec S_ 1) (main_v15 : IVec S_ 1) : IVec S_ 1 :=
  let main_v16 : IVec S_ 1 := andi main_v11 main_v15
  let main_v17 : FVec F S1024x1024x1 .f32 := Host.absf main_arg3
  let main_cst_6 : FVec F S_ .f32 := constant S_ .f32 0x7F800000#32
  let main_v18 : FVec F S1024x1024x1 .f32 := broadcastInDim S1024x1024x1 ![] bcast_S_S1024x1024x1 main_cst_6
  let main_v19 : IVec S1024x1024x1 1 := cmpf .olt main_v17 main_v18
  let main_c_7 : IVec S_ 1 := constantI S_ 1 1#1
  let main_v20 : IVec S_ 1 := (fun x v => Host.reduce IntOp.andi x v reducesTo_S1024x1024x1_S_d0_1_2 h_S_) main_v19 main_c_7
  let main_v21 : IVec S_ 1 := andi main_v16 main_v20
  let main_v22 : FVec F S48x1024x1 .f32 := Host.absf main_arg5
  let main_cst_8 : FVec F S_ .f32 := constant S_ .f32 0x7F800000#32
  let main_v23 : FVec F S48x1024x1 .f32 := broadcastInDim S48x1024x1 ![] bcast_S_S48x1024x1 main_cst_8
  let main_v24 : IVec S48x1024x1 1 := cmpf .olt main_v22 main_v23
  let main_c_9 : IVec S_ 1 := constantI S_ 1 1#1
  let main_v25 : IVec S_ 1 := (fun x v => Host.reduce IntOp.andi x v reducesTo_S48x1024x1_S_d0_1_2 h_S_) main_v24 main_c_9
  let main_v26 : IVec S_ 1 := andi main_v21 main_v25
  let main_v27 : FVec F S1024x1024x3 .f32 := Host.absf main_arg7
  let main_cst_10 : FVec F S_ .f32 := constant S_ .f32 0x7F800000#32
  let main_v28 : FVec F S1024x1024x3 .f32 := broadcastInDim S1024x1024x3 ![] bcast_S_S1024x1024x3 main_cst_10
  let main_v29 : IVec S1024x1024x3 1 := cmpf .olt main_v27 main_v28
  let main_c_11 : IVec S_ 1 := constantI S_ 1 1#1
  let main_v30 : IVec S_ 1 := (fun x v => Host.reduce IntOp.andi x v reducesTo_S1024x1024x3_S_d0_1_2 h_S_) main_v29 main_c_11
  let main_v31 : IVec S_ 1 := andi main_v26 main_v30
  let main_v32 : FVec F S1024x1024x1 .f32 := Host.absf main_arg9
  let main_cst_12 : FVec F S_ .f32 := constant S_ .f32 0x7F800000#32
  fn_part2 (F := F) main_arg11 main_v31 main_v32 main_cst_12

def fn {F : FTy → Type} [FloatOps F] (main_arg0 : FVec F S4096x1x1024 .f32) (main_arg1 : FVec F S1024x1024x3 .f32) (main_arg2 : FVec F S1024 .f32) (main_arg3 : FVec F S1024x1024x1 .f32) (main_arg4 : FVec F S1024 .f32) (main_arg5 : FVec F S48x1024x1 .f32) (main_arg6 : FVec F S48 .f32) (main_arg7 : FVec F S1024x1024x3 .f32) (main_arg8 : FVec F S1024 .f32) (main_arg9 : FVec F S1024x1024x1 .f32) (main_arg10 : FVec F S1024 .f32) (main_arg11 : FVec F S65x1024x1 .f32) (main_arg12 : FVec F S65 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .oeq main_arg2 main_v0
  let main_c : IVec S_ 1 := constantI S_ 1 1#1
  let main_v2 : IVec S_ 1 := (fun x v => Host.reduce IntOp.andi x v reducesTo_S1024_S_d0 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oeq main_arg8 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_v7 : FVec F S4096x1x1024 .f32 := Host.absf main_arg0
  let main_cst_2 : FVec F S_ .f32 := constant S_ .f32 0x7F800000#32
  let main_v8 : FVec F S4096x1x1024 .f32 := broadcastInDim S4096x1x1024 ![] bcast_S_S4096x1x1024 main_cst_2
  let main_v9 : IVec S4096x1x1024 1 := cmpf .olt main_v7 main_v8
  let main_c_3 : IVec S_ 1 := constantI S_ 1 1#1
  let main_v10 : IVec S_ 1 := (fun x v => Host.reduce IntOp.andi x v reducesTo_S4096x1x1024_S_d0_1_2 h_S_) main_v9 main_c_3
  let main_v11 : IVec S_ 1 := andi main_v6 main_v10
  let main_v12 : FVec F S1024x1024x3 .f32 := Host.absf main_arg1
  let main_cst_4 : FVec F S_ .f32 := constant S_ .f32 0x7F800000#32
  let main_v13 : FVec F S1024x1024x3 .f32 := broadcastInDim S1024x1024x3 ![] bcast_S_S1024x1024x3 main_cst_4
  let main_v14 : IVec S1024x1024x3 1 := cmpf .olt main_v12 main_v13
  let main_c_5 : IVec S_ 1 := constantI S_ 1 1#1
  let main_v15 : IVec S_ 1 := (fun x v => Host.reduce IntOp.andi x v reducesTo_S1024x1024x3_S_d0_1_2 h_S_) main_v14 main_c_5
  fn_part1 (F := F) main_arg3 main_arg5 main_arg7 main_arg9 main_arg11 main_v11 main_v15
-- ==== Kernel.lean ====
abbrev S4096x1x1024 : Shape := ⟨3, ![4096, 1, 1024]⟩
abbrev S1024x1024x3 : Shape := ⟨3, ![1024, 1024, 3]⟩
abbrev S1024 : Shape := ⟨1, ![1024]⟩
abbrev S1024x1024x1 : Shape := ⟨3, ![1024, 1024, 1]⟩
abbrev S48x1024x1 : Shape := ⟨3, ![48, 1024, 1]⟩
abbrev S48 : Shape := ⟨1, ![48]⟩
abbrev S65x1024x1 : Shape := ⟨3, ![65, 1024, 1]⟩
abbrev S65 : Shape := ⟨1, ![65]⟩
abbrev S4096x1024 : Shape := ⟨2, ![4096, 1024]⟩
abbrev S_ : Shape := ⟨0, ![]⟩
abbrev S4098x1024 : Shape := ⟨2, ![4098, 1024]⟩
abbrev S1024x1024 : Shape := ⟨2, ![1024, 1024]⟩
abbrev S1024x2048 : Shape := ⟨2, ![1024, 2048]⟩
abbrev S2048 : Shape := ⟨1, ![2048]⟩
abbrev S48x1024 : Shape := ⟨2, ![48, 1024]⟩
abbrev S1024x48 : Shape := ⟨2, ![1024, 48]⟩
abbrev S65x1024 : Shape := ⟨2, ![65, 1024]⟩
abbrev S1024x65 : Shape := ⟨2, ![1024, 65]⟩
abbrev S1x48 : Shape := ⟨2, ![1, 48]⟩
abbrev S1x65 : Shape := ⟨2, ![1, 65]⟩
abbrev S4096x1 : Shape := ⟨2, ![4096, 1]⟩
abbrev S4096x7 : Shape := ⟨2, ![4096, 7]⟩
abbrev S4096x1032 : Shape := ⟨2, ![4096, 1032]⟩
abbrev S1x2048 : Shape := ⟨2, ![1, 2048]⟩
abbrev S7x2048 : Shape := ⟨2, ![7, 2048]⟩
abbrev S1032x2048 : Shape := ⟨2, ![1032, 2048]⟩
abbrev S8x48 : Shape := ⟨2, ![8, 48]⟩
abbrev S1032x48 : Shape := ⟨2, ![1032, 48]⟩
abbrev S8x65 : Shape := ⟨2, ![8, 65]⟩
abbrev S1032x65 : Shape := ⟨2, ![1032, 65]⟩
abbrev S4096x8 : Shape := ⟨2, ![4096, 8]⟩
abbrev S8x2048 : Shape := ⟨2, ![8, 2048]⟩
abbrev S1032x63 : Shape := ⟨2, ![1032, 63]⟩
abbrev S1032x128 : Shape := ⟨2, ![1032, 128]⟩
abbrev S1x63 : Shape := ⟨2, ![1, 63]⟩
abbrev S1x128 : Shape := ⟨2, ![1, 128]⟩
abbrev S4096x48 : Shape := ⟨2, ![4096, 48]⟩
abbrev S4096x128 : Shape := ⟨2, ![4096, 128]⟩
abbrev S512x1024 : Shape := ⟨2, ![512, 1024]⟩
abbrev S1024x128 : Shape := ⟨2, ![1024, 128]⟩
abbrev S512x48 : Shape := ⟨2, ![512, 48]⟩
abbrev S512x128 : Shape := ⟨2, ![512, 128]⟩
abbrev S512x2048 : Shape := ⟨2, ![512, 2048]⟩
abbrev S4096x65 : Shape := ⟨2, ![4096, 65]⟩
abbrev S4096x1x48 : Shape := ⟨3, ![4096, 1, 48]⟩
abbrev S4096x1x65 : Shape := ⟨3, ![4096, 1, 65]⟩
abbrev S1x48x4096 : Shape := ⟨3, ![1, 48, 4096]⟩
abbrev S1x48x4160 : Shape := ⟨3, ![1, 48, 4160]⟩
abbrev S4096 : Shape := ⟨1, ![4096]⟩
abbrev S4096x65x1 : Shape := ⟨3, ![4096, 65, 1]⟩
abbrev S1x48x4096x65 : Shape := ⟨4, ![1, 48, 4096, 65]⟩
abbrev S1x4096x48x65 : Shape := ⟨4, ![1, 4096, 48, 65]⟩
abbrev S4096x1x1x65 : Shape := ⟨4, ![4096, 1, 1, 65]⟩
abbrev S1x4096x1x65 : Shape := ⟨4, ![1, 4096, 1, 65]⟩
abbrev S1x4096x48 : Shape := ⟨3, ![1, 4096, 48]⟩
abbrev S1x4096x48x1 : Shape := ⟨4, ![1, 4096, 48, 1]⟩
abbrev S1x4160x48x65 : Shape := ⟨4, ![1, 4160, 48, 65]⟩
abbrev S1x4096 : Shape := ⟨2, ![1, 4096]⟩
abbrev S128 : Shape := ⟨1, ![128]⟩
abbrev S128x1 : Shape := ⟨2, ![128, 1]⟩
abbrev S128x1x1024 : Shape := ⟨3, ![128, 1, 1024]⟩

abbrev nBuf : Space → Nat
  | .hbm => 314
  | .vmem => 19
  | .smem => 0
  | _ => 0

abbrev hbmTy0_0 (i : Nat) : BufTy := match i % 128 with
  | 0 => ⟨S4096x1x1024, .f32⟩
  | 1 => ⟨S1024x1024x3, .f32⟩
  | 2 => ⟨S1024, .f32⟩
  | 3 => ⟨S1024x1024x1, .f32⟩
  | 4 => ⟨S1024, .f32⟩
  | 5 => ⟨S48x1024x1, .f32⟩
  | 6 => ⟨S48, .f32⟩
  | 7 => ⟨S1024x1024x3, .f32⟩
  | 8 => ⟨S1024, .f32⟩
  | 9 => ⟨S1024x1024x1, .f32⟩
  | 10 => ⟨S1024, .f32⟩
  | 11 => ⟨S65x1024x1, .f32⟩
  | 12 => ⟨S65, .f32⟩
  | 13 => ⟨S4096x1024, .f32⟩
  | 14 => ⟨S_, .i32⟩
  | 15 => ⟨S_, .f32⟩
  | 16 => ⟨S4098x1024, .f32⟩
  | 17 => ⟨S4096x1024, .f32⟩
  | 18 => ⟨S4096x1024, .bf16⟩
  | 19 => ⟨S4096x1024, .f32⟩
  | 20 => ⟨S4096x1024, .bf16⟩
  | 21 => ⟨S4096x1024, .f32⟩
  | 22 => ⟨S4096x1024, .bf16⟩
  | 23 => ⟨S1024x1024x1, .f32⟩
  | 24 => ⟨S1024x1024, .f32⟩
  | 25 => ⟨S1024x1024, .f32⟩
  | 26 => ⟨S1024x1024x1, .f32⟩
  | 27 => ⟨S1024x1024, .f32⟩
  | 28 => ⟨S1024x1024, .f32⟩
  | 29 => ⟨S1024x2048, .f32⟩
  | 30 => ⟨S1024x2048, .bf16⟩
  | 31 => ⟨S1024x1024x1, .f32⟩
  | 32 => ⟨S1024x1024, .f32⟩
  | 33 => ⟨S1024x1024, .f32⟩
  | 34 => ⟨S1024x1024x1, .f32⟩
  | 35 => ⟨S1024x1024, .f32⟩
  | 36 => ⟨S1024x1024, .f32⟩
  | 37 => ⟨S1024x2048, .f32⟩
  | 38 => ⟨S1024x2048, .bf16⟩
  | 39 => ⟨S1024x1024x1, .f32⟩
  | 40 => ⟨S1024x1024, .f32⟩
  | 41 => ⟨S1024x1024, .f32⟩
  | 42 => ⟨S1024x1024x1, .f32⟩
  | 43 => ⟨S1024x1024, .f32⟩
  | 44 => ⟨S1024x1024, .f32⟩
  | 45 => ⟨S1024x2048, .f32⟩
  | 46 => ⟨S1024x2048, .bf16⟩
  | 47 => ⟨S2048, .f32⟩
  | 48 => ⟨S48x1024, .f32⟩
  | 49 => ⟨S1024x1024, .f32⟩
  | 50 => ⟨S48x1024, .f32⟩
  | 51 => ⟨S1024x48, .f32⟩
  | 52 => ⟨S65x1024, .f32⟩
  | 53 => ⟨S1024x1024, .f32⟩
  | 54 => ⟨S65x1024, .f32⟩
  | 55 => ⟨S1024x65, .f32⟩
  | 56 => ⟨S48x1024, .f32⟩
  | 57 => ⟨S1024x48, .f32⟩
  | 58 => ⟨S65x1024, .f32⟩
  | 59 => ⟨S1024x65, .f32⟩
  | 60 => ⟨S48x1024, .f32⟩
  | 61 => ⟨S48, .f32⟩
  | 62 => ⟨S48, .f32⟩
  | 63 => ⟨S1x48, .f32⟩
  | 64 => ⟨S65x1024, .f32⟩
  | 65 => ⟨S65, .f32⟩
  | 66 => ⟨S65, .f32⟩
  | 67 => ⟨S1x65, .f32⟩
  | 68 => ⟨S_, .bf16⟩
  | 69 => ⟨S4096x1, .bf16⟩
  | 70 => ⟨S_, .bf16⟩
  | 71 => ⟨S4096x7, .bf16⟩
  | 72 => ⟨S4096x1032, .bf16⟩
  | 73 => ⟨S1x2048, .f32⟩
  | 74 => ⟨S1x2048, .bf16⟩
  | 75 => ⟨S_, .bf16⟩
  | 76 => ⟨S7x2048, .bf16⟩
  | 77 => ⟨S1032x2048, .bf16⟩
  | 78 => ⟨S_, .f32⟩
  | 79 => ⟨S8x48, .f32⟩
  | 80 => ⟨S1032x48, .f32⟩
  | 81 => ⟨S_, .f32⟩
  | 82 => ⟨S8x65, .f32⟩
  | 83 => ⟨S1032x65, .f32⟩
  | 84 => ⟨S_, .bf16⟩
  | 85 => ⟨S4096x8, .bf16⟩
  | 86 => ⟨S4096x1032, .bf16⟩
  | 87 => ⟨S_, .bf16⟩
  | 88 => ⟨S4096x8, .bf16⟩
  | 89 => ⟨S4096x1032, .bf16⟩
  | 90 => ⟨S_, .bf16⟩
  | 91 => ⟨S8x2048, .bf16⟩
  | 92 => ⟨S1032x2048, .bf16⟩
  | 93 => ⟨S_, .bf16⟩
  | 94 => ⟨S8x2048, .bf16⟩
  | 95 => ⟨S1032x2048, .bf16⟩
  | 96 => ⟨S1032x48, .bf16⟩
  | 97 => ⟨S_, .f32⟩
  | 98 => ⟨S1032x63, .f32⟩
  | 99 => ⟨S1032x128, .f32⟩
  | 100 => ⟨S1032x128, .bf16⟩
  | 101 => ⟨S_, .f32⟩
  | 102 => ⟨S8x48, .f32⟩
  | 103 => ⟨S1032x48, .f32⟩
  | 104 => ⟨S1032x48, .bf16⟩
  | 105 => ⟨S_, .f32⟩
  | 106 => ⟨S8x65, .f32⟩
  | 107 => ⟨S1032x65, .f32⟩
  | 108 => ⟨S_, .f32⟩
  | 109 => ⟨S1032x63, .f32⟩
  | 110 => ⟨S1032x128, .f32⟩
  | 111 => ⟨S1032x128, .bf16⟩
  | 112 => ⟨S_, .f32⟩
  | 113 => ⟨S1x63, .f32⟩
  | 114 => ⟨S1x128, .f32⟩
  | 115 => ⟨S4096x48, .f32⟩
  | 116 => ⟨S4096x128, .f32⟩
  | 117 => ⟨S4096x65, .f32⟩
  | 118 => ⟨S4096x1x48, .f32⟩
  | 119 => ⟨S4096x1x65, .f32⟩
  | 120 => ⟨S1x48x4096, .f32⟩
  | 121 => ⟨S_, .i32⟩
  | 122 => ⟨S_, .f32⟩
  | 123 => ⟨S1x48x4160, .f32⟩
  | 124 => ⟨S4096, .i32⟩
  | 125 => ⟨S4096x1, .i32⟩
  | 126 => ⟨S65, .i32⟩
  | 127 => ⟨S1x65, .i32⟩
  | _ => ⟨S4096x1x1024, .f32⟩

abbrev hbmTy0_1 (i : Nat) : BufTy := match i % 128 with
  | 0 => ⟨S4096x65, .i32⟩
  | 1 => ⟨S4096x65, .i32⟩
  | 2 => ⟨S4096x65, .i32⟩
  | 3 => ⟨S_, .i32⟩
  | 4 => ⟨S4096x65, .i32⟩
  | 5 => ⟨S4096x65, .i1⟩
  | 6 => ⟨S_, .i32⟩
  | 7 => ⟨S4096x65, .i32⟩
  | 8 => ⟨S4096x65, .i32⟩
  | 9 => ⟨S4096x65, .i32⟩
  | 10 => ⟨S4096x65x1, .i32⟩
  | 11 => ⟨S1x48x4096x65, .f32⟩
  | 12 => ⟨S1x4096x48x65, .f32⟩
  | 13 => ⟨S4096x1x1x65, .f32⟩
  | 14 => ⟨S1x4096x1x65, .f32⟩
  | 15 => ⟨S1x4096x48x65, .f32⟩
  | 16 => ⟨S1x4096x48x65, .f32⟩
  | 17 => ⟨S_, .f32⟩
  | 18 => ⟨S1x4096x48, .f32⟩
  | 19 => ⟨S_, .f32⟩
  | 20 => ⟨S1x4096x48, .f32⟩
  | 21 => ⟨S1x4096x48, .f32⟩
  | 22 => ⟨S1x4096x48x1, .f32⟩
  | 23 => ⟨S1x4096x48x65, .f32⟩
  | 24 => ⟨S1x4096x48x65, .f32⟩
  | 25 => ⟨S1x4096x48x65, .f32⟩
  | 26 => ⟨S_, .f32⟩
  | 27 => ⟨S1x4096x48, .f32⟩
  | 28 => ⟨S1x4096x48x1, .f32⟩
  | 29 => ⟨S1x4096x48x65, .f32⟩
  | 30 => ⟨S1x4096x48x65, .f32⟩
  | 31 => ⟨S1x4096x48x65, .i1⟩
  | 32 => ⟨S_, .f32⟩
  | 33 => ⟨S_, .f32⟩
  | 34 => ⟨S1x4096x48x65, .f32⟩
  | 35 => ⟨S1x4096x48x65, .f32⟩
  | 36 => ⟨S_, .i32⟩
  | 37 => ⟨S_, .f32⟩
  | 38 => ⟨S1x4160x48x65, .f32⟩
  | 39 => ⟨S1x4096x48x65, .f32⟩
  | 40 => ⟨S_, .f32⟩
  | 41 => ⟨S1x4096x48x65, .f32⟩
  | 42 => ⟨S1x4096x48x65, .f32⟩
  | 43 => ⟨S1x4096x48x65, .f32⟩
  | 44 => ⟨S1x4096x48x65, .f32⟩
  | 45 => ⟨S1x4096x48x65, .f32⟩
  | 46 => ⟨S1x4096x48x65, .f32⟩
  | 47 => ⟨S1x4096x48x65, .f32⟩
  | 48 => ⟨S1x4096x48x65, .f32⟩
  | 49 => ⟨S1x4096x48x65, .f32⟩
  | 50 => ⟨S1x4096x48x65, .f32⟩
  | 51 => ⟨S1x4096x48x65, .f32⟩
  | 52 => ⟨S1x4096x48x65, .f32⟩
  | 53 => ⟨S1x4096x48x65, .f32⟩
  | 54 => ⟨S1x4096x48x65, .f32⟩
  | 55 => ⟨S1x4096x48x65, .f32⟩
  | 56 => ⟨S1x4096x48x65, .f32⟩
  | 57 => ⟨S1x4096x48x65, .f32⟩
  | 58 => ⟨S1x4096x48x65, .f32⟩
  | 59 => ⟨S1x4096x48x65, .f32⟩
  | 60 => ⟨S1x4096x48x65, .f32⟩
  | 61 => ⟨S1x4096x48x65, .f32⟩
  | 62 => ⟨S1x4096x48x65, .f32⟩
  | 63 => ⟨S1x4096x48x65, .f32⟩
  | 64 => ⟨S1x4096x48x65, .f32⟩
  | 65 => ⟨S1x4096x48x65, .f32⟩
  | 66 => ⟨S1x4096x48x65, .f32⟩
  | 67 => ⟨S1x4096x48x65, .f32⟩
  | 68 => ⟨S1x4096x48x65, .f32⟩
  | 69 => ⟨S1x4096x48x65, .f32⟩
  | 70 => ⟨S1x4096x48x65, .f32⟩
  | 71 => ⟨S1x4096x48x65, .f32⟩
  | 72 => ⟨S1x4096x48x65, .f32⟩
  | 73 => ⟨S1x4096x48x65, .f32⟩
  | 74 => ⟨S1x4096x48x65, .f32⟩
  | 75 => ⟨S1x4096x48x65, .f32⟩
  | 76 => ⟨S1x4096x48x65, .f32⟩
  | 77 => ⟨S1x4096x48x65, .f32⟩
  | 78 => ⟨S1x4096x48x65, .f32⟩
  | 79 => ⟨S1x4096x48x65, .f32⟩
  | 80 => ⟨S1x4096x48x65, .f32⟩
  | 81 => ⟨S1x4096x48x65, .f32⟩
  | 82 => ⟨S1x4096x48x65, .f32⟩
  | 83 => ⟨S1x4096x48x65, .f32⟩
  | 84 => ⟨S1x4096x48x65, .f32⟩
  | 85 => ⟨S1x4096x48x65, .f32⟩
  | 86 => ⟨S1x4096x48x65, .f32⟩
  | 87 => ⟨S1x4096x48x65, .f32⟩
  | 88 => ⟨S1x4096x48x65, .f32⟩
  | 89 => ⟨S1x4096x48x65, .f32⟩
  | 90 => ⟨S1x4096x48x65, .f32⟩
  | 91 => ⟨S1x4096x48x65, .f32⟩
  | 92 => ⟨S1x4096x48x65, .f32⟩
  | 93 => ⟨S1x4096x48x65, .f32⟩
  | 94 => ⟨S1x4096x48x65, .f32⟩
  | 95 => ⟨S1x4096x48x65, .f32⟩
  | 96 => ⟨S1x4096x48x65, .f32⟩
  | 97 => ⟨S1x4096x48x65, .f32⟩
  | 98 => ⟨S1x4096x48x65, .f32⟩
  | 99 => ⟨S1x4096x48x65, .f32⟩
  | 100 => ⟨S1x4096x48x65, .f32⟩
  | 101 => ⟨S1x4096x48x65, .f32⟩
  | 102 => ⟨S1x4096x48x65, .f32⟩
  | 103 => ⟨S1x4096x48x65, .f32⟩
  | 104 => ⟨S1x4096x48x65, .f32⟩
  | 105 => ⟨S1x4096x48x65, .f32⟩
  | 106 => ⟨S1x4096x48x65, .f32⟩
  | 107 => ⟨S1x4096x48x65, .f32⟩
  | 108 => ⟨S1x4096x48x65, .f32⟩
  | 109 => ⟨S1x4096x48x65, .f32⟩
  | 110 => ⟨S1x4096x48x65, .f32⟩
  | 111 => ⟨S1x4096x48x65, .f32⟩
  | 112 => ⟨S1x4096x48x65, .f32⟩
  | 113 => ⟨S1x4096x48x65, .f32⟩
  | 114 => ⟨S1x4096x48x65, .f32⟩
  | 115 => ⟨S1x4096x48x65, .f32⟩
  | 116 => ⟨S1x4096x48x65, .f32⟩
  | 117 => ⟨S1x4096x48x65, .f32⟩
  | 118 => ⟨S1x4096x48x65, .f32⟩
  | 119 => ⟨S1x4096x48x65, .f32⟩
  | 120 => ⟨S1x4096x48x65, .f32⟩
  | 121 => ⟨S1x4096x48x65, .f32⟩
  | 122 => ⟨S1x4096x48x65, .f32⟩
  | 123 => ⟨S1x4096x48x65, .f32⟩
  | 124 => ⟨S1x4096x48x65, .f32⟩
  | 125 => ⟨S1x4096x48x65, .f32⟩
  | 126 => ⟨S1x4096x48x65, .f32⟩
  | 127 => ⟨S1x4096x48x65, .f32⟩
  | _ => ⟨S4096x1x1024, .f32⟩

abbrev hbmTy0_2 (i : Nat) : BufTy := match i % 128 with
  | 0 => ⟨S1x4096x48x65, .f32⟩
  | 1 => ⟨S1x4096x48x65, .f32⟩
  | 2 => ⟨S1x4096x48x65, .f32⟩
  | 3 => ⟨S1x4096x48x65, .f32⟩
  | 4 => ⟨S1x4096x48x65, .f32⟩
  | 5 => ⟨S1x4096x48x65, .f32⟩
  | 6 => ⟨S1x4096x48x65, .f32⟩
  | 7 => ⟨S1x4096x48x65, .f32⟩
  | 8 => ⟨S1x4096x48x65, .f32⟩
  | 9 => ⟨S1x4096x48x65, .f32⟩
  | 10 => ⟨S1x4096x48x65, .f32⟩
  | 11 => ⟨S1x4096x48x65, .f32⟩
  | 12 => ⟨S1x4096x48x65, .f32⟩
  | 13 => ⟨S1x4096x48x65, .f32⟩
  | 14 => ⟨S1x4096x48x65, .f32⟩
  | 15 => ⟨S1x4096x48x65, .f32⟩
  | 16 => ⟨S1x4096x48x65, .f32⟩
  | 17 => ⟨S1x4096x48x65, .f32⟩
  | 18 => ⟨S1x4096x48x65, .f32⟩
  | 19 => ⟨S1x4096x48x65, .f32⟩
  | 20 => ⟨S1x4096x48x65, .f32⟩
  | 21 => ⟨S1x4096x48x65, .f32⟩
  | 22 => ⟨S1x4096x48x65, .f32⟩
  | 23 => ⟨S1x4096x48x65, .f32⟩
  | 24 => ⟨S1x4096x48x65, .f32⟩
  | 25 => ⟨S1x4096x48x65, .f32⟩
  | 26 => ⟨S1x4096x48x65, .f32⟩
  | 27 => ⟨S1x4096x48x65, .f32⟩
  | 28 => ⟨S1x4096x48x65, .f32⟩
  | 29 => ⟨S1x4096x48x65, .f32⟩
  | 30 => ⟨S1x4096x48x65, .f32⟩
  | 31 => ⟨S1x4096x48x65, .f32⟩
  | 32 => ⟨S1x4096x48x65, .f32⟩
  | 33 => ⟨S1x4096x48x65, .f32⟩
  | 34 => ⟨S1x4096x48x65, .f32⟩
  | 35 => ⟨S1x4096x48x65, .f32⟩
  | 36 => ⟨S1x4096x48x65, .f32⟩
  | 37 => ⟨S1x4096x48x65, .f32⟩
  | 38 => ⟨S1x4096x48x65, .f32⟩
  | 39 => ⟨S1x4096x48x65, .f32⟩
  | 40 => ⟨S1x4096x48x65, .f32⟩
  | 41 => ⟨S1x4096x48x65, .f32⟩
  | 42 => ⟨S_, .f32⟩
  | 43 => ⟨S1x4096x48, .f32⟩
  | 44 => ⟨S_, .f32⟩
  | 45 => ⟨S1x4096, .f32⟩
  | 46 => ⟨S1x128, .f32⟩
  | 47 => ⟨S1x128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i32⟩
  | 55 => ⟨S128, .i32⟩
  | 56 => ⟨S128x1, .i32⟩
  | 57 => ⟨S128x1x1024, .f32⟩
  | _ => ⟨S4096x1x1024, .f32⟩

abbrev hbmTy (i : Nat) : BufTy := match i / 128 with
  | 0 => hbmTy0_0 i
  | 1 => hbmTy0_1 i
  | 2 => hbmTy0_2 i
  | _ => ⟨S4096x1x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x48, .bf16⟩
  | .local _ .vmem, ⟨10, _⟩ => ⟨S1024x128, .bf16⟩
  | .local _ .vmem, ⟨11, _⟩ => ⟨S1024x48, .bf16⟩
  | .local _ .vmem, ⟨12, _⟩ => ⟨S1024x128, .bf16⟩
  | .local _ .vmem, ⟨13, _⟩ => ⟨S1x48, .f32⟩
  | .local _ .vmem, ⟨14, _⟩ => ⟨S1x128, .f32⟩
  | .local _ .vmem, ⟨15, _⟩ => ⟨S512x48, .f32⟩
  | .local _ .vmem, ⟨16, _⟩ => ⟨S512x48, .f32⟩
  | .local _ .vmem, ⟨17, _⟩ => ⟨S512x128, .f32⟩
  | .local _ .vmem, ⟨18, _⟩ => ⟨S512x128, .f32⟩
  | _, _ => ⟨S4096x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst : Ref sig .tc := ⟨.hbm, 68, rfl⟩
abbrev main_v53 : Ref sig .tc := ⟨.hbm, 69, rfl⟩
abbrev main_cst_0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_1 : Ref sig .tc := ⟨.hbm, 75, rfl⟩
abbrev main_v58 : Ref sig .tc := ⟨.hbm, 76, rfl⟩
abbrev main_v59 : Ref sig .tc := ⟨.hbm, 77, rfl⟩
abbrev main_cst_2 : Ref sig .tc := ⟨.hbm, 78, rfl⟩
abbrev main_v60 : Ref sig .tc := ⟨.hbm, 79, rfl⟩
abbrev main_v61 : Ref sig .tc := ⟨.hbm, 80, rfl⟩
abbrev main_cst_3 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_cst_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_8 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_12 : Ref sig .tc := ⟨.hbm, 112, rfl⟩
abbrev main_v84 : Ref sig .tc := ⟨.hbm, 113, rfl⟩
abbrev main_v85 : Ref sig .tc := ⟨.hbm, 114, rfl⟩
abbrev main_v86_0 : Ref sig .tc := ⟨.hbm, 115, rfl⟩
abbrev main_v86_1 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_13 : Ref sig .tc := ⟨.hbm, 121, rfl⟩
abbrev main_call1_v0 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_14 : Ref sig .tc := ⟨.hbm, 131, rfl⟩
abbrev main_v99 : Ref sig .tc := ⟨.hbm, 132, rfl⟩
abbrev main_v100 : Ref sig .tc := ⟨.hbm, 133, rfl⟩
abbrev main_c_15 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_16 : Ref sig .tc := ⟨.hbm, 145, rfl⟩
abbrev main_v111 : Ref sig .tc := ⟨.hbm, 146, rfl⟩
abbrev main_cst_17 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_18 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_19 : Ref sig .tc := ⟨.hbm, 160, rfl⟩
abbrev main_call2_v0 : Ref sig .tc := ⟨.hbm, 161, rfl⟩
abbrev main_call2_v1 : Ref sig .tc := ⟨.hbm, 162, rfl⟩
abbrev main_v123 : Ref sig .tc := ⟨.hbm, 163, rfl⟩
abbrev main_c_20 : Ref sig .tc := ⟨.hbm, 164, rfl⟩
abbrev main_call3_v0 : Ref sig .tc := ⟨.hbm, 165, rfl⟩
abbrev main_v124 : Ref sig .tc := ⟨.hbm, 166, rfl⟩
abbrev main_v125 : Ref sig .tc := ⟨.hbm, 167, rfl⟩
abbrev main_cst_21 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_cst_22 : Ref sig .tc := ⟨.hbm, 298, rfl⟩
abbrev main_v255 : Ref sig .tc := ⟨.hbm, 299, rfl⟩
abbrev main_cst_23 : Ref sig .tc := ⟨.hbm, 300, rfl⟩
abbrev main_v256 : Ref sig .tc := ⟨.hbm, 301, rfl⟩
abbrev main_values : Ref sig .tc := ⟨.hbm, 302, rfl⟩
abbrev main_indices : Ref sig .tc := ⟨.hbm, 303, rfl⟩
abbrev main_v257 : Ref sig .tc := ⟨.hbm, 304, rfl⟩
abbrev main_c_24 : Ref sig .tc := ⟨.hbm, 305, rfl⟩
abbrev main_v258 : Ref sig .tc := ⟨.hbm, 306, rfl⟩
abbrev main_v259 : Ref sig .tc := ⟨.hbm, 307, rfl⟩
abbrev main_c_25 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x48 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x48 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x48 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x1x1024 : Shape := ⟨3, ![4096, 1, 1024]⟩
abbrev S1024x1024x3 : Shape := ⟨3, ![1024, 1024, 3]⟩
abbrev S1024 : Shape := ⟨1, ![1024]⟩
abbrev S1024x1024x1 : Shape := ⟨3, ![1024, 1024, 1]⟩
abbrev S48x1024x1 : Shape := ⟨3, ![48, 1024, 1]⟩
abbrev S48 : Shape := ⟨1, ![48]⟩
abbrev S65x1024x1 : Shape := ⟨3, ![65, 1024, 1]⟩
abbrev S65 : Shape := ⟨1, ![65]⟩
abbrev S1x1024x4096 : Shape := ⟨3, ![1, 1024, 4096]⟩
abbrev S_ : Shape := ⟨0, ![]⟩
abbrev S1x1024x4098 : Shape := ⟨3, ![1, 1024, 4098]⟩
abbrev S1024x1024 : Shape := ⟨2, ![1024, 1024]⟩
abbrev S1x4096x1024 : Shape := ⟨3, ![1, 4096, 1024]⟩
abbrev S1x1024x1 : Shape := ⟨3, ![1, 1024, 1]⟩
abbrev S48x1024 : Shape := ⟨2, ![48, 1024]⟩
abbrev S1x4096x48 : Shape := ⟨3, ![1, 4096, 48]⟩
abbrev S1x48x4096 : Shape := ⟨3, ![1, 48, 4096]⟩
abbrev S1x48x1 : Shape := ⟨3, ![1, 48, 1]⟩
abbrev S4096x1x48 : Shape := ⟨3, ![4096, 1, 48]⟩
abbrev S65x1024 : Shape := ⟨2, ![65, 1024]⟩
abbrev S1x4096x65 : Shape := ⟨3, ![1, 4096, 65]⟩
abbrev S1x65x4096 : Shape := ⟨3, ![1, 65, 4096]⟩
abbrev S1x65x1 : Shape := ⟨3, ![1, 65, 1]⟩
abbrev S4096x1x65 : Shape := ⟨3, ![4096, 1, 65]⟩
abbrev S1x48x4160 : Shape := ⟨3, ![1, 48, 4160]⟩
abbrev S4096 : Shape := ⟨1, ![4096]⟩
abbrev S4096x1 : Shape := ⟨2, ![4096, 1]⟩
abbrev S1x65 : Shape := ⟨2, ![1, 65]⟩
abbrev S4096x65 : Shape := ⟨2, ![4096, 65]⟩
abbrev S4096x65x1 : Shape := ⟨3, ![4096, 65, 1]⟩
abbrev S1x48x4096x65 : Shape := ⟨4, ![1, 48, 4096, 65]⟩
abbrev S1x4096x48x65 : Shape := ⟨4, ![1, 4096, 48, 65]⟩
abbrev S4096x1x1x65 : Shape := ⟨4, ![4096, 1, 1, 65]⟩
abbrev S1x4096x1x65 : Shape := ⟨4, ![1, 4096, 1, 65]⟩
abbrev S1x4096x48x1 : Shape := ⟨4, ![1, 4096, 48, 1]⟩
abbrev S1x4160x48x65 : Shape := ⟨4, ![1, 4160, 48, 65]⟩
abbrev S1x4096 : Shape := ⟨2, ![1, 4096]⟩
abbrev S1x128 : Shape := ⟨2, ![1, 128]⟩
abbrev S128 : Shape := ⟨1, ![128]⟩
abbrev S128x1 : Shape := ⟨2, ![128, 1]⟩
abbrev S128x1x1024 : Shape := ⟨3, ![128, 1, 1024]⟩

abbrev nBuf : Space → Nat
  | .hbm => 289
  | .vmem => 0
  | .smem => 0
  | _ => 0

abbrev hbmTy0_0 (i : Nat) : BufTy := match i % 128 with
  | 0 => ⟨S4096x1x1024, .f32⟩
  | 1 => ⟨S1024x1024x3, .f32⟩
  | 2 => ⟨S1024, .f32⟩
  | 3 => ⟨S1024x1024x1, .f32⟩
  | 4 => ⟨S1024, .f32⟩
  | 5 => ⟨S48x1024x1, .f32⟩
  | 6 => ⟨S48, .f32⟩
  | 7 => ⟨S1024x1024x3, .f32⟩
  | 8 => ⟨S1024, .f32⟩
  | 9 => ⟨S1024x1024x1, .f32⟩
  | 10 => ⟨S1024, .f32⟩
  | 11 => ⟨S65x1024x1, .f32⟩
  | 12 => ⟨S65, .f32⟩
  | 13 => ⟨S1x1024x4096, .f32⟩
  | 14 => ⟨S_, .i32⟩
  | 15 => ⟨S_, .f32⟩
  | 16 => ⟨S1x1024x4098, .f32⟩
  | 17 => ⟨S1024x1024x1, .f32⟩
  | 18 => ⟨S1024x1024, .f32⟩
  | 19 => ⟨S1x1024x4096, .f32⟩
  | 20 => ⟨S1x4096x1024, .f32⟩
  | 21 => ⟨S1x1024x4096, .f32⟩
  | 22 => ⟨S1024x1024x1, .f32⟩
  | 23 => ⟨S1024x1024, .f32⟩
  | 24 => ⟨S1x1024x4096, .f32⟩
  | 25 => ⟨S1x4096x1024, .f32⟩
  | 26 => ⟨S1x1024x4096, .f32⟩
  | 27 => ⟨S1x1024x4096, .f32⟩
  | 28 => ⟨S1024x1024x1, .f32⟩
  | 29 => ⟨S1024x1024, .f32⟩
  | 30 => ⟨S1x1024x4096, .f32⟩
  | 31 => ⟨S1x4096x1024, .f32⟩
  | 32 => ⟨S1x1024x4096, .f32⟩
  | 33 => ⟨S1x1024x4096, .f32⟩
  | 34 => ⟨S1x1024x1, .f32⟩
  | 35 => ⟨S1x1024x4096, .f32⟩
  | 36 => ⟨S1x1024x4096, .f32⟩
  | 37 => ⟨S_, .f32⟩
  | 38 => ⟨S1x1024x4096, .f32⟩
  | 39 => ⟨S1x1024x4096, .f32⟩
  | 40 => ⟨S1024x1024, .f32⟩
  | 41 => ⟨S1x4096x1024, .f32⟩
  | 42 => ⟨S1x1024x4096, .f32⟩
  | 43 => ⟨S1x1024x1, .f32⟩
  | 44 => ⟨S1x1024x4096, .f32⟩
  | 45 => ⟨S1x1024x4096, .f32⟩
  | 46 => ⟨S1x1024x4096, .f32⟩
  | 47 => ⟨S48x1024, .f32⟩
  | 48 => ⟨S1x4096x48, .f32⟩
  | 49 => ⟨S1x48x4096, .f32⟩
  | 50 => ⟨S1x48x1, .f32⟩
  | 51 => ⟨S1x48x4096, .f32⟩
  | 52 => ⟨S1x48x4096, .f32⟩
  | 53 => ⟨S4096x1x48, .f32⟩
  | 54 => ⟨S1x1024x4096, .f32⟩
  | 55 => ⟨S_, .i32⟩
  | 56 => ⟨S_, .f32⟩
  | 57 => ⟨S1x1024x4098, .f32⟩
  | 58 => ⟨S1024x1024x1, .f32⟩
  | 59 => ⟨S1024x1024, .f32⟩
  | 60 => ⟨S1x1024x4096, .f32⟩
  | 61 => ⟨S1x4096x1024, .f32⟩
  | 62 => ⟨S1x1024x4096, .f32⟩
  | 63 => ⟨S1024x1024x1, .f32⟩
  | 64 => ⟨S1024x1024, .f32⟩
  | 65 => ⟨S1x1024x4096, .f32⟩
  | 66 => ⟨S1x4096x1024, .f32⟩
  | 67 => ⟨S1x1024x4096, .f32⟩
  | 68 => ⟨S1x1024x4096, .f32⟩
  | 69 => ⟨S1024x1024x1, .f32⟩
  | 70 => ⟨S1024x1024, .f32⟩
  | 71 => ⟨S1x1024x4096, .f32⟩
  | 72 => ⟨S1x4096x1024, .f32⟩
  | 73 => ⟨S1x1024x4096, .f32⟩
  | 74 => ⟨S1x1024x4096, .f32⟩
  | 75 => ⟨S1x1024x1, .f32⟩
  | 76 => ⟨S1x1024x4096, .f32⟩
  | 77 => ⟨S1x1024x4096, .f32⟩
  | 78 => ⟨S_, .f32⟩
  | 79 => ⟨S1x1024x4096, .f32⟩
  | 80 => ⟨S1x1024x4096, .f32⟩
  | 81 => ⟨S1024x1024, .f32⟩
  | 82 => ⟨S1x4096x1024, .f32⟩
  | 83 => ⟨S1x1024x4096, .f32⟩
  | 84 => ⟨S1x1024x1, .f32⟩
  | 85 => ⟨S1x1024x4096, .f32⟩
  | 86 => ⟨S1x1024x4096, .f32⟩
  | 87 => ⟨S1x1024x4096, .f32⟩
  | 88 => ⟨S65x1024, .f32⟩
  | 89 => ⟨S1x4096x65, .f32⟩
  | 90 => ⟨S1x65x4096, .f32⟩
  | 91 => ⟨S1x65x1, .f32⟩
  | 92 => ⟨S1x65x4096, .f32⟩
  | 93 => ⟨S1x65x4096, .f32⟩
  | 94 => ⟨S4096x1x65, .f32⟩
  | 95 => ⟨S1x48x4096, .f32⟩
  | 96 => ⟨S_, .i32⟩
  | 97 => ⟨S_, .f32⟩
  | 98 => ⟨S1x48x4160, .f32⟩
  | 99 => ⟨S4096, .i32⟩
  | 100 => ⟨S4096x1, .i32⟩
  | 101 => ⟨S65, .i32⟩
  | 102 => ⟨S1x65, .i32⟩
  | 103 => ⟨S4096x65, .i32⟩
  | 104 => ⟨S4096x65, .i32⟩
  | 105 => ⟨S4096x65, .i32⟩
  | 106 => ⟨S_, .i32⟩
  | 107 => ⟨S4096x65, .i32⟩
  | 108 => ⟨S4096x65, .i1⟩
  | 109 => ⟨S_, .i32⟩
  | 110 => ⟨S4096x65, .i32⟩
  | 111 => ⟨S4096x65, .i32⟩
  | 112 => ⟨S4096x65, .i32⟩
  | 113 => ⟨S4096x65x1, .i32⟩
  | 114 => ⟨S1x48x4096x65, .f32⟩
  | 115 => ⟨S1x4096x48x65, .f32⟩
  | 116 => ⟨S4096x1x1x65, .f32⟩
  | 117 => ⟨S1x4096x1x65, .f32⟩
  | 118 => ⟨S1x4096x48x65, .f32⟩
  | 119 => ⟨S1x4096x48x65, .f32⟩
  | 120 => ⟨S_, .f32⟩
  | 121 => ⟨S1x4096x48, .f32⟩
  | 122 => ⟨S_, .f32⟩
  | 123 => ⟨S1x4096x48, .f32⟩
  | 124 => ⟨S1x4096x48, .f32⟩
  | 125 => ⟨S1x4096x48x1, .f32⟩
  | 126 => ⟨S1x4096x48x65, .f32⟩
  | 127 => ⟨S1x4096x48x65, .f32⟩
  | _ => ⟨S4096x1x1024, .f32⟩

abbrev hbmTy0_1 (i : Nat) : BufTy := match i % 128 with
  | 0 => ⟨S1x4096x48x65, .f32⟩
  | 1 => ⟨S_, .f32⟩
  | 2 => ⟨S1x4096x48, .f32⟩
  | 3 => ⟨S1x4096x48x1, .f32⟩
  | 4 => ⟨S1x4096x48x65, .f32⟩
  | 5 => ⟨S1x4096x48x65, .f32⟩
  | 6 => ⟨S1x4096x48x65, .i1⟩
  | 7 => ⟨S_, .f32⟩
  | 8 => ⟨S_, .f32⟩
  | 9 => ⟨S1x4096x48x65, .f32⟩
  | 10 => ⟨S1x4096x48x65, .f32⟩
  | 11 => ⟨S_, .i32⟩
  | 12 => ⟨S_, .f32⟩
  | 13 => ⟨S1x4160x48x65, .f32⟩
  | 14 => ⟨S1x4096x48x65, .f32⟩
  | 15 => ⟨S_, .f32⟩
  | 16 => ⟨S1x4096x48x65, .f32⟩
  | 17 => ⟨S1x4096x48x65, .f32⟩
  | 18 => ⟨S1x4096x48x65, .f32⟩
  | 19 => ⟨S1x4096x48x65, .f32⟩
  | 20 => ⟨S1x4096x48x65, .f32⟩
  | 21 => ⟨S1x4096x48x65, .f32⟩
  | 22 => ⟨S1x4096x48x65, .f32⟩
  | 23 => ⟨S1x4096x48x65, .f32⟩
  | 24 => ⟨S1x4096x48x65, .f32⟩
  | 25 => ⟨S1x4096x48x65, .f32⟩
  | 26 => ⟨S1x4096x48x65, .f32⟩
  | 27 => ⟨S1x4096x48x65, .f32⟩
  | 28 => ⟨S1x4096x48x65, .f32⟩
  | 29 => ⟨S1x4096x48x65, .f32⟩
  | 30 => ⟨S1x4096x48x65, .f32⟩
  | 31 => ⟨S1x4096x48x65, .f32⟩
  | 32 => ⟨S1x4096x48x65, .f32⟩
  | 33 => ⟨S1x4096x48x65, .f32⟩
  | 34 => ⟨S1x4096x48x65, .f32⟩
  | 35 => ⟨S1x4096x48x65, .f32⟩
  | 36 => ⟨S1x4096x48x65, .f32⟩
  | 37 => ⟨S1x4096x48x65, .f32⟩
  | 38 => ⟨S1x4096x48x65, .f32⟩
  | 39 => ⟨S1x4096x48x65, .f32⟩
  | 40 => ⟨S1x4096x48x65, .f32⟩
  | 41 => ⟨S1x4096x48x65, .f32⟩
  | 42 => ⟨S1x4096x48x65, .f32⟩
  | 43 => ⟨S1x4096x48x65, .f32⟩
  | 44 => ⟨S1x4096x48x65, .f32⟩
  | 45 => ⟨S1x4096x48x65, .f32⟩
  | 46 => ⟨S1x4096x48x65, .f32⟩
  | 47 => ⟨S1x4096x48x65, .f32⟩
  | 48 => ⟨S1x4096x48x65, .f32⟩
  | 49 => ⟨S1x4096x48x65, .f32⟩
  | 50 => ⟨S1x4096x48x65, .f32⟩
  | 51 => ⟨S1x4096x48x65, .f32⟩
  | 52 => ⟨S1x4096x48x65, .f32⟩
  | 53 => ⟨S1x4096x48x65, .f32⟩
  | 54 => ⟨S1x4096x48x65, .f32⟩
  | 55 => ⟨S1x4096x48x65, .f32⟩
  | 56 => ⟨S1x4096x48x65, .f32⟩
  | 57 => ⟨S1x4096x48x65, .f32⟩
  | 58 => ⟨S1x4096x48x65, .f32⟩
  | 59 => ⟨S1x4096x48x65, .f32⟩
  | 60 => ⟨S1x4096x48x65, .f32⟩
  | 61 => ⟨S1x4096x48x65, .f32⟩
  | 62 => ⟨S1x4096x48x65, .f32⟩
  | 63 => ⟨S1x4096x48x65, .f32⟩
  | 64 => ⟨S1x4096x48x65, .f32⟩
  | 65 => ⟨S1x4096x48x65, .f32⟩
  | 66 => ⟨S1x4096x48x65, .f32⟩
  | 67 => ⟨S1x4096x48x65, .f32⟩
  | 68 => ⟨S1x4096x48x65, .f32⟩
  | 69 => ⟨S1x4096x48x65, .f32⟩
  | 70 => ⟨S1x4096x48x65, .f32⟩
  | 71 => ⟨S1x4096x48x65, .f32⟩
  | 72 => ⟨S1x4096x48x65, .f32⟩
  | 73 => ⟨S1x4096x48x65, .f32⟩
  | 74 => ⟨S1x4096x48x65, .f32⟩
  | 75 => ⟨S1x4096x48x65, .f32⟩
  | 76 => ⟨S1x4096x48x65, .f32⟩
  | 77 => ⟨S1x4096x48x65, .f32⟩
  | 78 => ⟨S1x4096x48x65, .f32⟩
  | 79 => ⟨S1x4096x48x65, .f32⟩
  | 80 => ⟨S1x4096x48x65, .f32⟩
  | 81 => ⟨S1x4096x48x65, .f32⟩
  | 82 => ⟨S1x4096x48x65, .f32⟩
  | 83 => ⟨S1x4096x48x65, .f32⟩
  | 84 => ⟨S1x4096x48x65, .f32⟩
  | 85 => ⟨S1x4096x48x65, .f32⟩
  | 86 => ⟨S1x4096x48x65, .f32⟩
  | 87 => ⟨S1x4096x48x65, .f32⟩
  | 88 => ⟨S1x4096x48x65, .f32⟩
  | 89 => ⟨S1x4096x48x65, .f32⟩
  | 90 => ⟨S1x4096x48x65, .f32⟩
  | 91 => ⟨S1x4096x48x65, .f32⟩
  | 92 => ⟨S1x4096x48x65, .f32⟩
  | 93 => ⟨S1x4096x48x65, .f32⟩
  | 94 => ⟨S1x4096x48x65, .f32⟩
  | 95 => ⟨S1x4096x48x65, .f32⟩
  | 96 => ⟨S1x4096x48x65, .f32⟩
  | 97 => ⟨S1x4096x48x65, .f32⟩
  | 98 => ⟨S1x4096x48x65, .f32⟩
  | 99 => ⟨S1x4096x48x65, .f32⟩
  | 100 => ⟨S1x4096x48x65, .f32⟩
  | 101 => ⟨S1x4096x48x65, .f32⟩
  | 102 => ⟨S1x4096x48x65, .f32⟩
  | 103 => ⟨S1x4096x48x65, .f32⟩
  | 104 => ⟨S1x4096x48x65, .f32⟩
  | 105 => ⟨S1x4096x48x65, .f32⟩
  | 106 => ⟨S1x4096x48x65, .f32⟩
  | 107 => ⟨S1x4096x48x65, .f32⟩
  | 108 => ⟨S1x4096x48x65, .f32⟩
  | 109 => ⟨S1x4096x48x65, .f32⟩
  | 110 => ⟨S1x4096x48x65, .f32⟩
  | 111 => ⟨S1x4096x48x65, .f32⟩
  | 112 => ⟨S1x4096x48x65, .f32⟩
  | 113 => ⟨S1x4096x48x65, .f32⟩
  | 114 => ⟨S1x4096x48x65, .f32⟩
  | 115 => ⟨S1x4096x48x65, .f32⟩
  | 116 => ⟨S1x4096x48x65, .f32⟩
  | 117 => ⟨S1x4096x48x65, .f32⟩
  | 118 => ⟨S1x4096x48x65, .f32⟩
  | 119 => ⟨S1x4096x48x65, .f32⟩
  | 120 => ⟨S1x4096x48x65, .f32⟩
  | 121 => ⟨S1x4096x48x65, .f32⟩
  | 122 => ⟨S1x4096x48x65, .f32⟩
  | 123 => ⟨S1x4096x48x65, .f32⟩
  | 124 => ⟨S1x4096x48x65, .f32⟩
  | 125 => ⟨S1x4096x48x65, .f32⟩
  | 126 => ⟨S1x4096x48x65, .f32⟩
  | 127 => ⟨S1x4096x48x65, .f32⟩
  | _ => ⟨S4096x1x1024, .f32⟩

abbrev hbmTy0_2 (i : Nat) : BufTy := match i % 128 with
  | 0 => ⟨S1x4096x48x65, .f32⟩
  | 1 => ⟨S1x4096x48x65, .f32⟩
  | 2 => ⟨S1x4096x48x65, .f32⟩
  | 3 => ⟨S1x4096x48x65, .f32⟩
  | 4 => ⟨S1x4096x48x65, .f32⟩
  | 5 => ⟨S1x4096x48x65, .f32⟩
  | 6 => ⟨S1x4096x48x65, .f32⟩
  | 7 => ⟨S1x4096x48x65, .f32⟩
  | 8 => ⟨S1x4096x48x65, .f32⟩
  | 9 => ⟨S1x4096x48x65, .f32⟩
  | 10 => ⟨S1x4096x48x65, .f32⟩
  | 11 => ⟨S1x4096x48x65, .f32⟩
  | 12 => ⟨S1x4096x48x65, .f32⟩
  | 13 => ⟨S1x4096x48x65, .f32⟩
  | 14 => ⟨S1x4096x48x65, .f32⟩
  | 15 => ⟨S1x4096x48x65, .f32⟩
  | 16 => ⟨S1x4096x48x65, .f32⟩
  | 17 => ⟨S_, .f32⟩
  | 18 => ⟨S1x4096x48, .f32⟩
  | 19 => ⟨S_, .f32⟩
  | 20 => ⟨S1x4096, .f32⟩
  | 21 => ⟨S1x128, .f32⟩
  | 22 => ⟨S1x128, .i32⟩
  | 23 => ⟨S128, .i32⟩
  | 24 => ⟨S_, .i32⟩
  | 25 => ⟨S128, .i32⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128x1x1024, .f32⟩
  | _ => ⟨S4096x1x1024, .f32⟩

abbrev hbmTy (i : Nat) : BufTy := match i / 128 with
  | 0 => hbmTy0_0 i
  | 1 => hbmTy0_1 i
  | 2 => hbmTy0_2 i
  | _ => ⟨S4096x1x1024, .f32⟩

abbrev bufTy : (tb : Table) → Fin (tcTables nBuf tb) → BufTy
  | .hbm, ⟨i, _⟩ => hbmTy i
  | _, _ => ⟨S4096x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_cst : Ref sig .tc := ⟨.hbm, 37, rfl⟩
abbrev main_call1_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_0 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call3_cst : Ref sig .tc := ⟨.hbm, 78, rfl⟩
abbrev main_call3_v0 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_1 : Ref sig .tc := ⟨.hbm, 96, rfl⟩
abbrev main_call4_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_2 : Ref sig .tc := ⟨.hbm, 106, rfl⟩
abbrev main_v83 : Ref sig .tc := ⟨.hbm, 107, rfl⟩
abbrev main_v84 : Ref sig .tc := ⟨.hbm, 108, rfl⟩
abbrev main_c_3 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst : Ref sig .tc := ⟨.hbm, 120, rfl⟩
abbrev main_v95 : Ref sig .tc := ⟨.hbm, 121, rfl⟩
abbrev main_cst_4 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_5 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_6 : Ref sig .tc := ⟨.hbm, 135, rfl⟩
abbrev main_call5_v0 : Ref sig .tc := ⟨.hbm, 136, rfl⟩
abbrev main_call5_v1 : Ref sig .tc := ⟨.hbm, 137, rfl⟩
abbrev main_v107 : Ref sig .tc := ⟨.hbm, 138, rfl⟩
abbrev main_c_7 : Ref sig .tc := ⟨.hbm, 139, rfl⟩
abbrev main_call6_v0 : Ref sig .tc := ⟨.hbm, 140, rfl⟩
abbrev main_v108 : Ref sig .tc := ⟨.hbm, 141, rfl⟩
abbrev main_v109 : Ref sig .tc := ⟨.hbm, 142, rfl⟩
abbrev main_cst_8 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_cst_9 : Ref sig .tc := ⟨.hbm, 273, rfl⟩
abbrev main_v239 : Ref sig .tc := ⟨.hbm, 274, rfl⟩
abbrev main_cst_10 : Ref sig .tc := ⟨.hbm, 275, rfl⟩
abbrev main_v240 : Ref sig .tc := ⟨.hbm, 276, rfl⟩
abbrev main_values : Ref sig .tc := ⟨.hbm, 277, rfl⟩
abbrev main_indices : Ref sig .tc := ⟨.hbm, 278, rfl⟩
abbrev main_v241 : Ref sig .tc := ⟨.hbm, 279, rfl⟩
abbrev main_c_11 : Ref sig .tc := ⟨.hbm, 280, rfl⟩
abbrev main_v242 : Ref sig .tc := ⟨.hbm, 281, rfl⟩
abbrev main_v243 : Ref sig .tc := ⟨.hbm, 282, rfl⟩
abbrev main_c_12 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩

abbrev nD : Nat := 1
abbrev τ : Topo := Topo.v7x

variable {F : FTy → Type} [FloatOps F]
-- ==== Proof.Pool.Sums.lean ====
/- The equation between the two orders of multiplication: output weights times (features plus hidden layer), against folded weights. -/
module

public import Mathlib.Data.EReal.Operations
public import Mathlib.Algebra.BigOperators.Ring.Finset
public import Mathlib.Algebra.BigOperators.Group.Finset.Sigma
public import Mathlib.Tactic.Ring

@[expose] public section

namespace Cert.Pool

/-- A value that is a real number. -/
def IsReal (a : EReal) : Prop := ∃ r : ℝ, a = (r : EReal)

/-- A sum of two real numbers is a real number. -/
theorem IsReal.add {a b : EReal} : IsReal a → IsReal b → IsReal (a + b) := by
  rintro ⟨r, rfl⟩ ⟨s, rfl⟩; exact ⟨r + s, by push_cast; rfl⟩

/-- A product of two real numbers is a real number. -/
theorem IsReal.mul {a b : EReal} : IsReal a → IsReal b → IsReal (a * b) := by
  rintro ⟨r, rfl⟩ ⟨s, rfl⟩; exact ⟨r * s, by push_cast; rfl⟩

/-- The coercion of a finite sum of real numbers is the sum of the coercions. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A finite sum of real numbers is a real number. -/
theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

/-- A real number cut off below zero is a real number. -/
theorem IsReal.relu {a : EReal} : IsReal a → IsReal (max a 0) := by
  rintro ⟨r, rfl⟩
  rcases le_total ((r : EReal)) 0 with h | h
  · exact ⟨0, by rw [max_eq_right h]; rfl⟩
  · exact ⟨r, max_eq_left h⟩

/-- A real factor distributes over the sum of a real number and anything. -/
theorem real_distrib (u w : ℝ) (b : EReal) : ((u : EReal) + b) * (w : EReal) = ((u * w : ℝ) : EReal) + (w : EReal) * b := by
  rcases lt_trichotomy w 0 with h | h | h
  · induction b with
    | bot => rw [EReal.add_bot, EReal.bot_mul_coe_of_neg h, EReal.coe_mul_bot_of_neg h]; rfl
    | coe b => norm_cast; ring
    | top => rw [EReal.coe_add_top, EReal.top_mul_coe_of_neg h, EReal.coe_mul_top_of_neg h]; rfl
  · subst h; simp
  · induction b with
    | bot => rw [EReal.add_bot, EReal.bot_mul_coe_of_pos h, EReal.coe_mul_bot_of_pos h]; rfl
    | coe b => norm_cast; ring
    | top => rw [EReal.coe_add_top, EReal.top_mul_coe_of_pos h, EReal.coe_mul_top_of_pos h]; rfl

/-- The score of the residual layer equals the score with folded weights: features, hidden units and weights are real numbers,
    the two biases are arbitrary. -/
theorem fold_eq {n : ℕ} (x r wo b1 : Fin n → EReal) (w1 : Fin n → Fin n → EReal) (bo : EReal)
    (hx : ∀ k, IsReal (x k)) (hr : ∀ k, IsReal (r k)) (hwo : ∀ k, IsReal (wo k)) (hw1 : ∀ e d, IsReal (w1 e d)) :
    ∑ e, (x e + (∑ d, r d * w1 e d + b1 e)) * wo e + bo
      = ∑ k, x k * wo k + ∑ d, r d * (∑ e, wo e * w1 e d) + (∑ e, wo e * b1 e + bo) := by
  choose x' hx using hx
  choose r' hr using hr
  choose wo' hwo using hwo
  choose w1' hw1 using hw1
  have step : ∀ e, (x e + (∑ d, r d * w1 e d + b1 e)) * wo e
      = ((x' e * wo' e + ∑ d, r' d * (wo' e * w1' e d) : ℝ) : EReal) + wo e * b1 e := by
    intro e
    rw [← add_assoc, hx, hwo]
    have : ∑ d, r d * w1 e d = ((∑ d, r' d * w1' e d : ℝ) : EReal) := by
      rw [coe_sum]; exact Finset.sum_congr rfl fun d _ => by rw [hr, hw1, EReal.coe_mul]
    rw [this, ← EReal.coe_add, real_distrib]
    congr 2
    rw [add_mul, Finset.sum_mul]
    congr 1
    exact Finset.sum_congr rfl fun d _ => by ring
  rw [Finset.sum_congr rfl fun e _ => step e, Finset.sum_add_distrib, add_assoc]
  congr 1
  have fold : ∀ d, r d * (∑ e, wo e * w1 e d) = ((r' d * ∑ e, wo' e * w1' e d : ℝ) : EReal) := by
    intro d
    rw [EReal.coe_mul, coe_sum, hr]
    congr 1
    exact Finset.sum_congr rfl fun e _ => by rw [hwo, hw1, EReal.coe_mul]
  have lin : ∀ k, x k * wo k = ((x' k * wo' k : ℝ) : EReal) := fun k => by rw [hx, hwo, EReal.coe_mul]
  rw [Finset.sum_congr rfl fun k _ => lin k, Finset.sum_congr rfl fun d _ => fold d, ← coe_sum, ← coe_sum, ← coe_sum, ← EReal.coe_add]
  congr 1
  rw [Finset.sum_add_distrib, Finset.sum_comm]
  congr 1
  exact Finset.sum_congr rfl fun d _ => (Finset.mul_sum ..).symm

end Cert.Pool

end
-- ==== Proof.Pool.Spec.lean ====
/- The numbers both programs compute before the softmax: padded rows, hidden units, scores. -/
module

public import Idealize.ShloMosaic.Lib.Pointwise
public import proofs.«01_k».proof.Proof.Pool.Sums

@[expose] public section

noncomputable section

namespace Cert.Pool

open Idealize.ShloMosaic

/-- Row `i` of the features with one zero row before and one after: the row `i - 1` of the features, or zero outside. -/
def padRow (x : Fin 4096 → Fin 1024 → EReal) (i : ℕ) (k : Fin 1024) : EReal :=
  if h : 1 ≤ i ∧ i - 1 < 4096 then x ⟨i - 1, h.2⟩ k else (FloatOps.sitofp FTy.f32 0#32 : Ideal .f32)

/-- The hidden value of one unit at one token: three taps, added and cut off below zero. -/
def unit (xa xb xc wa wb wc : Fin 1024 → EReal) : EReal :=
  max (∑ k, xa k * wa k + ∑ k, xb k * wb k + ∑ k, xc k * wc k) 0

/-- The hidden unit `d` of token `i`, from the features and the taps of the convolution. -/
def hid (x : Fin 4096 → Fin 1024 → EReal) (wd : Fin 1024 → Fin 1024 → Fin 3 → EReal) (i : Fin 4096) (d : Fin 1024) : EReal :=
  unit (fun k => padRow x i.val k) (fun k => x i k) (fun k => padRow x (2 + i.val) k) (fun k => wd d k 0) (fun k => wd d k 1) (fun k => wd d k 2)

/-- One score with folded weights: the features times the output weights, the hidden units times the folded weights, the folded bias. -/
def score (xb wx hid mm : Fin 1024 → EReal) (cc : EReal) : EReal :=
  ∑ k, xb k * wx k + ∑ d, hid d * mm d + cc

/-- One score of the residual layer: the features plus the mixed hidden units, times the output weights. -/
def layerScore (xb hid wo b1 : Fin 1024 → EReal) (w1 : Fin 1024 → Fin 1024 → EReal) (bo : EReal) : EReal :=
  ∑ e, (xb e + (∑ d, hid d * w1 e d + b1 e)) * wo e + bo

/-- The padding is a real number. -/
theorem pad_real : IsReal (FloatOps.sitofp FTy.f32 0#32 : Ideal .f32) := ⟨_, rfl⟩

/-- A row of real numbers stays one when padded. -/
theorem padRow_real (x : Fin 4096 → Fin 1024 → EReal) (hx : ∀ i k, IsReal (x i k)) (i : ℕ) (k : Fin 1024) : IsReal (padRow x i k) := by
  unfold padRow
  split
  · exact hx _ _
  · exact pad_real

/-- Hidden units of real features and real taps are real numbers. -/
theorem hid_real (x : Fin 4096 → Fin 1024 → EReal) (wd : Fin 1024 → Fin 1024 → Fin 3 → EReal) (hx : ∀ i k, IsReal (x i k))
    (hwd : ∀ d k s, IsReal (wd d k s)) (i : Fin 4096) (d : Fin 1024) : IsReal (hid x wd i d) :=
  IsReal.relu (((IsReal.sum fun k => (padRow_real x hx _ k).mul (hwd d k 0)).add (IsReal.sum fun k => (hx i k).mul (hwd d k 1))).add
    (IsReal.sum fun k => (padRow_real x hx _ k).mul (hwd d k 2)))

end Cert.Pool

end
-- ==== Proof.Pool.Entry.lean ====
/- The arrays that the host hands to the kernel, read at an index: the padded features, the taps, the folded weights. -/
module

public import proofs.«01_k».proof.Proof.Gen.KernelIdeal.Frame
public import Idealize.ShloMosaic.Lib.Pipeline.ValueKit
public import proofs.«01_k».proof.Proof.Pool.Spec
public import Idealize.ShloMosaic.Lib.StableHlo.ReadAt

@[expose] public section

set_option maxRecDepth 16384

noncomputable section

namespace Cert.Pool

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- Tap `s` of both heads' convolutions side by side: the first 1024 columns belong to the first head. -/
def tapPair (wg wl : FVec Ideal S1024x1024x3 .f32) (s : Fin 3) (r : Fin 1024) (k : Fin 2048) : EReal :=
  if h : k.val < 1024 then wg (ix3 ⟨k.val, h⟩ r s) else wl (ix3 ⟨k.val - 1024, by omega⟩ r s)

/-- The features one row up, padded by zero. -/
theorem v65_at (c : Dev nD) (x : FVec Ideal S4096x1x1024 .f32) (hx : m (c, Proc.devRef .tc main_arg0) = x) (i : Fin 4096) (k : Fin 1024) :
    V m c main_v65 (ix2 i ⟨k.val, by omega⟩) = (padRow (fun i k => x (ix3 i 0 k)) i.val k : EReal) := by
  subst hx
  simp only [V, V0, List.flatten_cons, List.flatten_nil, List.append_nil, after_append]
  after_reads_at
  pointwise [padRow]
  iterate 3 (try after_reads_at)
  try pointwise [padRow]
  try rfl

/-- The features in place. -/
theorem v55_at (c : Dev nD) (x : FVec Ideal S4096x1x1024 .f32) (hx : m (c, Proc.devRef .tc main_arg0) = x) (i : Fin 4096) (k : Fin 1024) :
    V m c main_v55 (ix2 i ⟨k.val, by omega⟩) = (x (ix3 i 0 k) : EReal) := by
  subst hx
  simp only [V, V0, List.flatten_cons, List.flatten_nil, List.append_nil, after_append]
  after_reads_at
  pointwise
  iterate 3 (try after_reads_at)
  try pointwise
  try rfl

/-- The features one row down, padded by zero. -/
theorem v67_at (c : Dev nD) (x : FVec Ideal S4096x1x1024 .f32) (hx : m (c, Proc.devRef .tc main_arg0) = x) (i : Fin 4096) (k : Fin 1024) :
    V m c main_v67 (ix2 i ⟨k.val, by omega⟩) = (padRow (fun i k => x (ix3 i 0 k)) (2 + i.val) k : EReal) := by
  subst hx
  simp only [V, V0, List.flatten_cons, List.flatten_nil, List.append_nil, after_append]
  after_reads_at
  pointwise [padRow]
  iterate 3 (try after_reads_at)
  try pointwise [padRow]
  try rfl

/-- The first tap of both heads. -/
theorem v69_at (c : Dev nD) (wg : FVec Ideal S1024x1024x3 .f32) (hwg : m (c, Proc.devRef .tc main_arg1) = wg) (wl : FVec Ideal S1024x1024x3 .f32) (hwl : m (c, Proc.devRef .tc main_arg7) = wl) (i : Fin 1024) (k : Fin 2048) :
    V m c main_v69 (ix2 ⟨i.val, by omega⟩ k) = (tapPair wg wl 0 i k : EReal) := by
  subst hwg hwl
  simp only [V, V0, List.flatten_cons, List.flatten_nil, List.append_nil, after_append]
  after_reads_at
  pointwise [tapPair]
  iterate 3 (try after_reads_at)
  try pointwise [tapPair]
  try rfl

/-- The middle tap of both heads. -/
theorem v59_at (c : Dev nD) (wg : FVec Ideal S1024x1024x3 .f32) (hwg : m (c, Proc.devRef .tc main_arg1) = wg) (wl : FVec Ideal S1024x1024x3 .f32) (hwl : m (c, Proc.devRef .tc main_arg7) = wl) (i : Fin 1024) (k : Fin 2048) :
    V m c main_v59 (ix2 ⟨i.val, by omega⟩ k) = (tapPair wg wl 1 i k : EReal) := by
  subst hwg hwl
  simp only [V, V0, List.flatten_cons, List.flatten_nil, List.append_nil, after_append]
  after_reads_at
  pointwise [tapPair]
  iterate 3 (try after_reads_at)
  try pointwise [tapPair]
  try rfl

/-- The last tap of both heads. -/
theorem v71_at (c : Dev nD) (wg : FVec Ideal S1024x1024x3 .f32) (hwg : m (c, Proc.devRef .tc main_arg1) = wg) (wl : FVec Ideal S1024x1024x3 .f32) (hwl : m (c, Proc.devRef .tc main_arg7) = wl) (i : Fin 1024) (k : Fin 2048) :
    V m c main_v71 (ix2 ⟨i.val, by omega⟩ k) = (tapPair wg wl 2 i k : EReal) := by
  subst hwg hwl
  simp only [V, V0, List.flatten_cons, List.flatten_nil, List.append_nil, after_append]
  after_reads_at
  pointwise [tapPair]
  iterate 3 (try after_reads_at)
  try pointwise [tapPair]
  try rfl

/-- The output weights of the first head, transposed. -/
theorem v72_at (c : Dev nD) (wo : FVec Ideal S48x1024x1 .f32) (hwo : m (c, Proc.devRef .tc main_arg5) = wo) (i : Fin 1024) (k : Fin 48) :
    V m c main_v72 (ix2 ⟨i.val, by omega⟩ k) = (wo (ix3 k i 0) : EReal) := by
  subst hwo
  simp only [V, V0, List.flatten_cons, List.flatten_nil, List.append_nil, after_append]
  after_reads_at
  pointwise
  iterate 3 (try after_reads_at)
  try pointwise
  try rfl

/-- The output weights of the second head, transposed, in its first 65 columns. -/
theorem v75_at (c : Dev nD) (wo : FVec Ideal S65x1024x1 .f32) (hwo : m (c, Proc.devRef .tc main_arg11) = wo) (i : Fin 1024) (k : Fin 65) :
    V m c main_v75 (ix2 ⟨i.val, by omega⟩ ⟨k.val, by omega⟩) = (wo (ix3 k i 0) : EReal) := by
  subst hwo
  simp only [V, V0, List.flatten_cons, List.flatten_nil, List.append_nil, after_append]
  after_reads_at
  pointwise
  iterate 3 (try after_reads_at)
  try pointwise
  try rfl

/-- The folded weights of the first head. -/
theorem v78_at (c : Dev nD) (wo : FVec Ideal S48x1024x1 .f32) (hwo : m (c, Proc.devRef .tc main_arg5) = wo) (w1 : FVec Ideal S1024x1024x1 .f32) (hw1 : m (c, Proc.devRef .tc main_arg3) = w1) (i : Fin 1024) (k : Fin 48) :
    V m c main_v78 (ix2 ⟨i.val, by omega⟩ k) = ((∑ e, wo (ix3 k e 0) * w1 (ix3 e i 0)) : EReal) := by
  subst hwo hw1
  simp only [V, V0, List.flatten_cons, List.flatten_nil, List.append_nil, after_append]
  after_reads_at
  pointwise
  iterate 3 (try after_reads_at)
  try pointwise
  try rfl

/-- The folded weights of the second head, in its first 65 columns. -/
theorem v83_at (c : Dev nD) (wo : FVec Ideal S65x1024x1 .f32) (hwo : m (c, Proc.devRef .tc main_arg11) = wo) (w1 : FVec Ideal S1024x1024x1 .f32) (hw1 : m (c, Proc.devRef .tc main_arg9) = w1) (i : Fin 1024) (k : Fin 65) :
    V m c main_v83 (ix2 ⟨i.val, by omega⟩ ⟨k.val, by omega⟩) = ((∑ e, wo (ix3 k e 0) * w1 (ix3 e i 0)) : EReal) := by
  subst hwo hw1
  simp only [V, V0, List.flatten_cons, List.flatten_nil, List.append_nil, after_append]
  after_reads_at
  pointwise
  iterate 3 (try after_reads_at)
  try pointwise
  try rfl

/-- The folded bias of the first head. -/
theorem v48_at (c : Dev nD) (wo : FVec Ideal S48x1024x1 .f32) (hwo : m (c, Proc.devRef .tc main_arg5) = wo) (b1 : FVec Ideal S1024 .f32) (hb1 : m (c, Proc.devRef .tc main_arg4) = b1) (bo : FVec Ideal S48 .f32) (hbo : m (c, Proc.devRef .tc main_arg6) = bo) (i : Fin 1) (k : Fin 48) :
    V m c main_v48 (ix2 i k) = ((∑ e, wo (ix3 k e 0) * b1 (ix1 e) + bo (ix1 k)) : EReal) := by
  subst hwo hb1 hbo
  simp only [V, V0, List.flatten_cons, List.flatten_nil, List.append_nil, after_append]
  after_reads_at

/-- The folded bias of the second head, in its first 65 columns. -/
theorem v85_at (c : Dev nD) (wo : FVec Ideal S65x1024x1 .f32) (hwo : m (c, Proc.devRef .tc main_arg11) = wo) (b1 : FVec Ideal S1024 .f32) (hb1 : m (c, Proc.devRef .tc main_arg10) = b1) (bo : FVec Ideal S65 .f32) (hbo : m (c, Proc.devRef .tc main_arg12) = bo) (i : Fin 1) (k : Fin 65) :
    V m c main_v85 (ix2 i ⟨k.val, by omega⟩) = ((∑ e, wo (ix3 k e 0) * b1 (ix1 e) + bo (ix1 k)) : EReal) := by
  subst hwo hb1 hbo
  simp only [V, V0, List.flatten_cons, List.flatten_nil, List.append_nil, after_append]
  after_reads_at

end Cert.Pool

end
-- ==== Proof.Pool.Blocks.lean ====
/- The blocks that the kernel's body loads at a grid point, read at an index of their arrays. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Which block each window stages at a point: the token tiles follow the point, every other window is whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] :=
  (by decide +kernel : ∀ t : Fin grid0.N, _)

theorem point_lt (t : Fin cfg0.N) : t.val < 8 := t.isLt

/-- The token that row `a` of tile `t` holds. -/
def tok (t : Fin cfg0.N) (a : Fin 512) : Fin 4096 := ⟨t.val * 512 + a.val, by have := point_lt t; omega⟩

/-- The tile of window 0 holds the tokens of its point. -/
theorem X0_0_at (c : Dev nD) (t : Fin cfg0.N) (a : Fin 512) (k : Fin 1024) :
    X0_0 m c t (ix2 a k) = V m c main_v65 (ix2 (tok t a) ⟨k.val, by omega⟩) := by
  unfold X0_0 Pipeline.Window.fill
  rw [dif_pos (moved0_0 t _)]
  blk_ext [iblk, idx t, tok]

/-- The tile of window 1 holds the tokens of its point. -/
theorem X0_1_at (c : Dev nD) (t : Fin cfg0.N) (a : Fin 512) (k : Fin 1024) :
    X0_1 m c t (ix2 a k) = V m c main_v55 (ix2 (tok t a) ⟨k.val, by omega⟩) := by
  unfold X0_1 Pipeline.Window.fill
  rw [dif_pos (moved0_1 t _)]
  blk_ext [iblk, idx t, tok]

/-- The tile of window 2 holds the tokens of its point. -/
theorem X0_2_at (c : Dev nD) (t : Fin cfg0.N) (a : Fin 512) (k : Fin 1024) :
    X0_2 m c t (ix2 a k) = V m c main_v67 (ix2 (tok t a) ⟨k.val, by omega⟩) := by
  unfold X0_2 Pipeline.Window.fill
  rw [dif_pos (moved0_2 t _)]
  blk_ext [iblk, idx t, tok]

/-- Window 3 holds the first 1024 rows of its array. -/
theorem X0_3_at (c : Dev nD) (t : Fin cfg0.N) (a : Fin 1024) (k : Fin 2048) :
    X0_3 m c t (ix2 a k) = V m c main_v69 (ix2 ⟨a.val, by omega⟩ k) := by
  unfold X0_3 Pipeline.Window.fill
  rw [dif_pos (moved0_3 t _)]
  blk_ext [iblk, idx t]

/-- Window 4 holds the first 1024 rows of its array. -/
theorem X0_4_at (c : Dev nD) (t : Fin cfg0.N) (a : Fin 1024) (k : Fin 2048) :
    X0_4 m c t (ix2 a k) = V m c main_v59 (ix2 ⟨a.val, by omega⟩ k) := by
  unfold X0_4 Pipeline.Window.fill
  rw [dif_pos (moved0_4 t _)]
  blk_ext [iblk, idx t]

/-- Window 5 holds the first 1024 rows of its array. -/
theorem X0_5_at (c : Dev nD) (t : Fin cfg0.N) (a : Fin 1024) (k : Fin 2048) :
    X0_5 m c t (ix2 a k) = V m c main_v71 (ix2 ⟨a.val, by omega⟩ k) := by
  unfold X0_5 Pipeline.Window.fill
  rw [dif_pos (moved0_5 t _)]
  blk_ext [iblk, idx t]

/-- Window 6 holds the first 1024 rows of its array. -/
theorem X0_6_at (c : Dev nD) (t : Fin cfg0.N) (a : Fin 1024) (k : Fin 48) :
    X0_6 m c t (ix2 a k) = V m c main_v72 (ix2 ⟨a.val, by omega⟩ k) := by
  unfold X0_6 Pipeline.Window.fill
  rw [dif_pos (moved0_6 t _)]
  blk_ext [iblk, idx t]

/-- Window 7 holds the first 1024 rows of its array. -/
theorem X0_7_at (c : Dev nD) (t : Fin cfg0.N) (a : Fin 1024) (k : Fin 128) :
    X0_7 m c t (ix2 a k) = V m c main_v75 (ix2 ⟨a.val, by omega⟩ k) := by
  unfold X0_7 Pipeline.Window.fill
  rw [dif_pos (moved0_7 t _)]
  blk_ext [iblk, idx t]

/-- Window 8 holds the first 1024 rows of its array. -/
theorem X0_8_at (c : Dev nD) (t : Fin cfg0.N) (a : Fin 1024) (k : Fin 48) :
    X0_8 m c t (ix2 a k) = V m c main_v78 (ix2 ⟨a.val, by omega⟩ k) := by
  unfold X0_8 Pipeline.Window.fill
  rw [dif_pos (moved0_8 t _)]
  blk_ext [iblk, idx t]

/-- Window 9 holds the first 1024 rows of its array. -/
theorem X0_9_at (c : Dev nD) (t : Fin cfg0.N) (a : Fin 1024) (k : Fin 128) :
    X0_9 m c t (ix2 a k) = V m c main_v83 (ix2 ⟨a.val, by omega⟩ k) := by
  unfold X0_9 Pipeline.Window.fill
  rw [dif_pos (moved0_9 t _)]
  blk_ext [iblk, idx t]

/-- Window 10 holds its whole array. -/
theorem iblk10_at (c : Dev nD) (t : Fin cfg0.N) (a : Fin 1) (k : Fin 48) :
    iblk m c 10 t (ix2 a k) = V m c main_v48 (ix2 a k) := by
  blk_ext [iblk, idx t]

/-- Window 11 holds its whole array. -/
theorem iblk11_at (c : Dev nD) (t : Fin cfg0.N) (a : Fin 1) (k : Fin 128) :
    iblk m c 11 t (ix2 a k) = V m c main_v85 (ix2 a k) := by
  blk_ext [iblk, idx t]

end Cert.Pool

end
-- ==== Proof.Pool.Heads.lean ====
/- What the kernel's body computes at a grid point, and what the two score arrays hold after all of them. -/
module

public import proofs.«01_k».proof.Proof.Pool.Blocks
public import proofs.«01_k».proof.Proof.Pool.Spec

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen

/-- The hidden units of a tile, both heads side by side. -/
theorem pay3_at (x0 x1 x2 : FVec Ideal S512x1024 .bf16) (w0 w1 w2 : FVec Ideal S1024x2048 .bf16) (a : Fin 512) (d : Fin 2048) :
    k0_pay3 (F := Ideal) x0 w0 x1 w1 x2 w2 (ix2 a d) = unit (fun k => x0 (ix2 a k)) (fun k => x1 (ix2 a k)) (fun k => x2 (ix2 a k))
      (fun k => w0 (ix2 k d)) (fun k => w1 (ix2 k d)) (fun k => w2 (ix2 k d)) := by
  pointwise [k0_pay3, unit]

/-- The first head's scores of a tile: from the first 1024 hidden units. -/
theorem pay1_at (x0 x1 x2 xb : FVec Ideal S512x1024 .bf16) (w0 w1 w2 : FVec Ideal S1024x2048 .bf16) (wx mm : FVec Ideal S1024x48 .bf16) (cc : FVec Ideal S1x48 .f32)
    (a : Fin 512) (n : Fin 48) :
    k0_pay1 (F := Ideal) (k0_pay6 x0 w0 x1 w1 x2 w2 xb wx mm) (k0_pay7 cc) (ix2 a n) = score (fun k => xb (ix2 a k)) (fun k => wx (ix2 k n))
      (fun d => k0_pay3 (F := Ideal) x0 w0 x1 w1 x2 w2 (ix2 a ⟨d.val, by omega⟩)) (fun d => mm (ix2 d n)) (cc (ix2 0 n)) := by
  pointwise [k0_pay1, k0_pay6, k0_pay7, k0_pay5, score]

/-- The second head's scores of a tile: from the last 1024 hidden units. -/
theorem pay2_at (x0 x1 x2 xb : FVec Ideal S512x1024 .bf16) (w0 w1 w2 : FVec Ideal S1024x2048 .bf16) (wx mm : FVec Ideal S1024x128 .bf16) (cc : FVec Ideal S1x128 .f32)
    (a : Fin 512) (n : Fin 128) :
    k0_pay2 (F := Ideal) (k0_pay4 x0 w0 x1 w1 x2 w2) (k0_pay5 xb) wx mm cc (ix2 a n) = score (fun k => xb (ix2 a k)) (fun k => wx (ix2 k n))
      (fun d => k0_pay3 (F := Ideal) x0 w0 x1 w1 x2 w2 (ix2 a ⟨1024 + d.val, by omega⟩)) (fun d => mm (ix2 d n)) (cc (ix2 0 n)) := by
  pointwise [k0_pay2, k0_pay4, k0_pay5, score]

variable (m : (ℓ : Loc nD τ sig) → Buf (Elt Ideal) ℓ)

/-- The hidden unit `d` of token `i`, over the arrays the kernel receives. -/
def unitV (c : Dev nD) (i : Fin 4096) (d : Fin 2048) : EReal :=
  unit (fun k => V m c main_v65 (ix2 i ⟨k.val, by omega⟩)) (fun k => V m c main_v55 (ix2 i ⟨k.val, by omega⟩)) (fun k => V m c main_v67 (ix2 i ⟨k.val, by omega⟩))
    (fun k => V m c main_v69 (ix2 ⟨k.val, by omega⟩ d)) (fun k => V m c main_v59 (ix2 ⟨k.val, by omega⟩ d)) (fun k => V m c main_v71 (ix2 ⟨k.val, by omega⟩ d))

/-- The first head's score of token `i` in column `n`, over the arrays the kernel receives. -/
def scoreG (c : Dev nD) (i : Fin 4096) (n : Fin 48) : EReal :=
  score (fun k => V m c main_v55 (ix2 i ⟨k.val, by omega⟩)) (fun k => V m c main_v72 (ix2 ⟨k.val, by omega⟩ n))
    (fun d => unitV m c i ⟨d.val, by omega⟩) (fun d => V m c main_v78 (ix2 ⟨d.val, by omega⟩ n)) (V m c main_v48 (ix2 0 n))

/-- The second head's score of token `i` in column `n`, over the arrays the kernel receives. -/
def scoreL (c : Dev nD) (i : Fin 4096) (n : Fin 128) : EReal :=
  score (fun k => V m c main_v55 (ix2 i ⟨k.val, by omega⟩)) (fun k => V m c main_v75 (ix2 ⟨k.val, by omega⟩ n))
    (fun d => unitV m c i ⟨1024 + d.val, by omega⟩) (fun d => V m c main_v83 (ix2 ⟨d.val, by omega⟩ n)) (V m c main_v85 (ix2 0 n))

/-- The hidden units of the tile at point `t` are those of its tokens. -/
theorem unit_tile (c : Dev nD) (t : Fin cfg0.N) (a : Fin 512) (d : Fin 2048) :
    k0_pay3 (F := Ideal) (X0_0 m c t) (X0_3 m c t) (X0_1 m c t) (X0_4 m c t) (X0_2 m c t) (X0_5 m c t) (ix2 a d) = unitV m c (tok t a) d := by
  rw [pay3_at, unitV]
  simp only [X0_0_at, X0_1_at, X0_2_at, X0_3_at, X0_4_at, X0_5_at]

/-- The first head's tile at point `t` holds its tokens' scores. -/
theorem tile12 (c : Dev nD) (t : Fin cfg0.N) (a : Fin 512) (n : Fin 48) :
    k0_pay1 (F := Ideal) (k0_pay6 (X0_0 m c t) (X0_3 m c t) (X0_1 m c t) (X0_4 m c t) (X0_2 m c t) (X0_5 m c t) (X0_1 m c t) (X0_6 m c t) (X0_8 m c t))
      (k0_pay7 (iblk m c 10 t)) (ix2 a n) = scoreG m c (tok t a) n := by
  refine (pay1_at _ _ _ _ _ _ _ _ _ _ a n).trans ?_
  simp only [unit_tile, X0_1_at, X0_6_at, X0_8_at, iblk10_at, scoreG]

/-- The second head's tile at point `t` holds its tokens' scores. -/
theorem tile13 (c : Dev nD) (t : Fin cfg0.N) (a : Fin 512) (n : Fin 128) :
    k0_pay2 (F := Ideal) (k0_pay4 (X0_0 m c t) (X0_3 m c t) (X0_1 m c t) (X0_4 m c t) (X0_2 m c t) (X0_5 m c t)) (k0_pay5 (X0_1 m c t))
      (X0_7 m c t) (X0_9 m c t) (iblk m c 11 t) (ix2 a n) = scoreL m c (tok t a) n := by
  refine (pay2_at _ _ _ _ _ _ _ _ _ _ a n).trans ?_
  simp only [unit_tile, X0_1_at, X0_7_at, X0_9_at, iblk11_at, scoreL]

/-- Where an element of the first head's tile lies in the array. -/
theorem emb12 (t : Fin cfg0.N) (a : Fin 512) (n : Fin 48) :
    ((View.whole main_v86_0).slice (win0_12.rect t)).emb (ix2 a n) = ix2 (tok t a) n := by
  blk_ext [idx t, tok]

/-- Where an element of the second head's tile lies in the array. -/
theorem emb13 (t : Fin cfg0.N) (a : Fin 512) (n : Fin 128) :
    ((View.whole main_v86_1).slice (win0_13.rect t)).emb (ix2 a n) = ix2 (tok t a) n := by
  blk_ext [idx t, tok]

/-- The first head's array after the region. -/
theorem final12 (c : Dev nD) : (dats m 0 c).arrAt 12 cfg0.N = (fun z => scoreG m c (z 0) (z 1)) := by
  refine Dat.arrAt_eq_of_covers (dats m 0 c) 12 _ (by decide +kernel) fun t _ y => ?_
  blk_simp
  rw [after0_12]
  unfold outsAt0
  dsimp only
  frame_out
  obtain ⟨a, n, rfl⟩ : ∃ (a : Fin 512) (n : Fin 48), y = ix2 a n := ⟨y 0, y 1, (ix2_eta (n0 := 512) y).symm⟩
  rw [emb12]
  exact tile12 m c t a n

/-- The second head's array after the region. -/
theorem final13 (c : Dev nD) : (dats m 0 c).arrAt 13 cfg0.N = (fun z => scoreL m c (z 0) (z 1)) := by
  refine Dat.arrAt_eq_of_covers (dats m 0 c) 13 _ (by decide +kernel) fun t _ y => ?_
  blk_simp
  rw [after0_13]
  unfold outsAt0
  dsimp only
  frame_out
  obtain ⟨a, n, rfl⟩ : ∃ (a : Fin 512) (n : Fin 128), y = ix2 a n := ⟨y 0, y 1, (ix2_eta (n0 := 512) y).symm⟩
  rw [emb13]
  exact tile13 m c t a n

end Cert.Pool

end
-- ==== Proof.Pool.RefHead.lean ====
/- What the reference computes for one head, as a term of the features and the head's six parameters, and its value at an index. -/
module

public import proofs.«01_k».proof.Proof.Gen.ReferenceIdeal
public import proofs.«01_k».proof.Proof.Pool.Spec

@[expose] public section

set_option maxRecDepth 16384

noncomputable section

namespace Cert.Pool

open Idealize.ShloMosaic Idealize.ShloMosaic.TcCoe Idealize.SL.Sem
open Cert.ReferenceIdeal Cert.ReferenceIdeal.Gen

variable {F : FTy → Type} [FloatOps F]

/-- The features, channels before time. -/
def hidden (x : FVec F S4096x1x1024 .f32) : FVec F S1x1024x4096 .f32 :=
  transpose S1x1024x4096 [1, 2, 0] x transposes_S4096x1x1024_S1x1024x4096_1_2_0

/-- The features with a zero before the first and after the last token. -/
def framed (x : FVec F S4096x1x1024 .f32) : FVec F S1x1024x4098 .f32 :=
  pad S1x1024x4098 ![0, 0, 1] ![0, 0, 1] ![0, 0, 0] (hidden x) (sitofp .f32 (constantI S_ 32 0#32)) pads_S1x1024x4096_S1x1024x4098_000_000_110 h_S_

/-- The product of a shifted copy `h` of the features with one tap `w` of the convolution. -/
def tapProduct (h : FVec F S1x1024x4096 .f32) (w : FVec F S1024x1024x1 .f32) : FVec F S1x1024x4096 .f32 :=
  transpose S1x1024x4096 [0, 2, 1] (Host.dotGeneral dot_S1x1024x4096_S1024x1024_S1x4096x1024_1_1_02_0_n_n none h (shapeCast _ w shapeCasts_S1024x1024x1_S1024x1024)) transposes_S1x4096x1024_S1x1024x4096_0_2_1

/-- A bias of one number per channel, at every token. -/
def biasAll (b : FVec F S1024 .f32) : FVec F S1x1024x4096 .f32 :=
  broadcastInDim S1x1024x4096 ![0, 1, 2] bcast_S1x1024x1_S1x1024x4096_0_1_2 (broadcastInDim S1x1024x1 ![1] bcast_S1024_S1x1024x1_1 b)

/-- The convolution with three taps, its bias added. -/
def conv3 (x : FVec F S4096x1x1024 .f32) (wd : FVec F S1024x1024x3 .f32) (bd : FVec F S1024 .f32) : FVec F S1x1024x4096 .f32 :=
  addf (addf (addf
    (tapProduct (extractStridedSlice S1x1024x4096 ![0, 0, 0] (framed x) slices_S1x1024x4098_S1x1024x4096_0_0_0) (extractStridedSlice S1024x1024x1 ![0, 0, 0] wd slices_S1024x1024x3_S1024x1024x1_0_0_0))
    (tapProduct (extractStridedSlice S1x1024x4096 ![0, 0, 1] (framed x) slices_S1x1024x4098_S1x1024x4096_0_0_1) (extractStridedSlice S1024x1024x1 ![0, 0, 1] wd slices_S1024x1024x3_S1024x1024x1_0_0_1)))
    (tapProduct (extractStridedSlice S1x1024x4096 ![0, 0, 2] (framed x) slices_S1x1024x4098_S1x1024x4096_0_0_2) (extractStridedSlice S1024x1024x1 ![0, 0, 2] wd slices_S1024x1024x3_S1024x1024x1_0_0_2)))
    (biasAll bd)

/-- The residual layer: the features plus the 1x1 convolution of the rectified convolution. -/
def residual (x : FVec F S4096x1x1024 .f32) (wd : FVec F S1024x1024x3 .f32) (bd : FVec F S1024 .f32) (w1 : FVec F S1024x1024x1 .f32)
    (b1 : FVec F S1024 .f32) : FVec F S1x1024x4096 .f32 :=
  addf (hidden x) (addf (tapProduct (maximumf (conv3 x wd bd) (broadcastInDim S1x1024x4096 ![] bcast_S_S1x1024x4096 (constant S_ .f32 0x00000000#32))) w1) (biasAll b1))

/-- The 48 global logits of every token. -/
def refG (x : FVec F S4096x1x1024 .f32) (wd : FVec F S1024x1024x3 .f32) (bd : FVec F S1024 .f32) (w1 : FVec F S1024x1024x1 .f32)
    (b1 : FVec F S1024 .f32) (wo : FVec F S48x1024x1 .f32) (bo : FVec F S48 .f32) : FVec F S4096x1x48 .f32 :=
  transpose S4096x1x48 [2, 0, 1] (addf (transpose S1x48x4096 [0, 2, 1] (Host.dotGeneral dot_S1x1024x4096_S48x1024_S1x4096x48_1_1_02_0_n_n none (residual x wd bd w1 b1) (shapeCast _ wo shapeCasts_S48x1024x1_S48x1024)) transposes_S1x4096x48_S1x48x4096_0_2_1) (broadcastInDim S1x48x4096 ![0, 1, 2] bcast_S1x48x1_S1x48x4096_0_1_2 (broadcastInDim S1x48x1 ![1] bcast_S48_S1x48x1_1 bo))) transposes_S1x48x4096_S4096x1x48_2_0_1

/-- The 65 local logits of every token. -/
def refL (x : FVec F S4096x1x1024 .f32) (wd : FVec F S1024x1024x3 .f32) (bd : FVec F S1024 .f32) (w1 : FVec F S1024x1024x1 .f32)
    (b1 : FVec F S1024 .f32) (wo : FVec F S65x1024x1 .f32) (bo : FVec F S65 .f32) : FVec F S4096x1x65 .f32 :=
  transpose S4096x1x65 [2, 0, 1] (addf (transpose S1x65x4096 [0, 2, 1] (Host.dotGeneral dot_S1x1024x4096_S65x1024_S1x4096x65_1_1_02_0_n_n none (residual x wd bd w1 b1) (shapeCast _ wo shapeCasts_S65x1024x1_S65x1024)) transposes_S1x4096x65_S1x65x4096_0_2_1) (broadcastInDim S1x65x4096 ![0, 1, 2] bcast_S1x65x1_S1x65x4096_0_1_2 (broadcastInDim S1x65x1 ![1] bcast_S65_S1x65x1_1 bo))) transposes_S1x65x4096_S4096x1x65_2_0_1

/-- A global logit of the reference, when the convolution's bias is zero. -/
theorem refG_at (x : FVec Ideal S4096x1x1024 .f32) (wd : FVec Ideal S1024x1024x3 .f32) (bd : FVec Ideal S1024 .f32) (w1 : FVec Ideal S1024x1024x1 .f32)
    (b1 : FVec Ideal S1024 .f32) (wo : FVec Ideal S48x1024x1 .f32) (bo : FVec Ideal S48 .f32) (hbd : ∀ d : Fin 1024, bd (ix1 d) = (0 : EReal))
    (t : Fin 4096) (z : Fin 1) (n : Fin 48) :
    refG x wd bd w1 b1 wo bo (ix3 t z n) = layerScore (fun k => x (ix3 t 0 k)) (hid (fun i k => x (ix3 i 0 k)) (fun d k s => wd (ix3 d k s)) t)
      (fun e => wo (ix3 n e 0)) (fun e => b1 (ix1 e)) (fun e d => w1 (ix3 e d 0)) (bo (ix1 n)) := by
  pointwise [refG, residual, conv3, tapProduct, biasAll, framed, hidden, layerScore, hid, unit, padRow, hbd]

/-- A local logit of the reference, when the convolution's bias is zero. -/
theorem refL_at (x : FVec Ideal S4096x1x1024 .f32) (wd : FVec Ideal S1024x1024x3 .f32) (bd : FVec Ideal S1024 .f32) (w1 : FVec Ideal S1024x1024x1 .f32)
    (b1 : FVec Ideal S1024 .f32) (wo : FVec Ideal S65x1024x1 .f32) (bo : FVec Ideal S65 .f32) (hbd : ∀ d : Fin 1024, bd (ix1 d) = (0 : EReal))
    (t : Fin 4096) (z : Fin 1) (n : Fin 65) :
    refL x wd bd w1 b1 wo bo (ix3 t z n) = layerScore (fun k => x (ix3 t 0 k)) (hid (fun i k => x (ix3 i 0 k)) (fun d k s => wd (ix3 d k s)) t)
      (fun e => wo (ix3 n e 0)) (fun e => b1 (ix1 e)) (fun e d => w1 (ix3 e d 0)) (bo (ix1 n)) := by
  pointwise [refL, residual, conv3, tapProduct, biasAll, framed, hidden, layerScore, hid, unit, padRow, hbd]

end Cert.Pool

end
-- ==== Proof.Pool.Equation.lean ====
/- The scores of the kernel, folded weights and all, are the scores of the reference. -/
module

public import proofs.«01_k».proof.Proof.Pool.Entry
public import proofs.«01_k».proof.Proof.Pool.Heads
public import proofs.«01_k».proof.Proof.Pool.RefHead

@[expose] public section

set_option maxRecDepth 16384

noncomputable section

namespace Cert.Pool

open Idealize.ShloMosaic Idealize.ShloMosaic.TcCoe Idealize.SL.Sem
open Cert.KernelIdeal Cert.KernelIdeal.Gen

/-- With real features and weights, a score with folded weights is the score of the residual layer. -/
theorem score_fold (x : Fin 4096 → Fin 1024 → EReal) (wd : Fin 1024 → Fin 1024 → Fin 3 → EReal) (w1 : Fin 1024 → Fin 1024 → EReal) (b1 wo : Fin 1024 → EReal) (bo : EReal)
    (hx : ∀ i k, IsReal (x i k)) (hwd : ∀ d k s, IsReal (wd d k s)) (hw1 : ∀ e d, IsReal (w1 e d)) (hwo : ∀ e, IsReal (wo e)) (i : Fin 4096) :
    score (x i) wo (hid x wd i) (fun d => ∑ e, wo e * w1 e d) (∑ e, wo e * b1 e + bo) = layerScore (x i) (hid x wd i) wo b1 w1 bo :=
  (fold_eq (x i) (hid x wd i) wo b1 w1 bo (hx i) (hid_real x wd hx hwd i) hwo hw1).symm

/-- The first 1024 columns of a pair of taps are the first head's. -/
theorem tapPair_left (wg wl : FVec Ideal S1024x1024x3 .f32) (s : Fin 3) (r : Fin 1024) (d : Fin 1024) (h : d.val < 2048) :
    tapPair wg wl s r ⟨d.val, h⟩ = wg (ix3 d r s) := dif_pos d.isLt

/-- The last 1024 columns of a pair of taps are the second head's. -/
theorem tapPair_right (wg wl : FVec Ideal S1024x1024x3 .f32) (s : Fin 3) (r : Fin 1024) (d : Fin 1024) (h : 1024 + d.val < 2048) :
    tapPair wg wl s r ⟨1024 + d.val, h⟩ = wl (ix3 d r s) := by
  unfold tapPair
  rw [dif_neg (by simp)]
  congr 2
  exact Fin.ext (Nat.add_sub_cancel_left ..)

variable (m : (ℓ : Loc nD τ sig) → Buf (Elt Ideal) ℓ)

/-- The first head's scores as an array. -/
def arrG (c : Dev nD) : FVec Ideal S4096x48 .f32 := fun z => scoreG m c (z 0) (z 1)

/-- The second head's scores as an array. -/
def arrL (c : Dev nD) : FVec Ideal S4096x128 .f32 := fun z => scoreL m c (z 0) (z 1)

/-- The first 1024 hidden units the kernel computes are the first head's. -/
theorem unitV_left (c : Dev nD) (x : FVec Ideal S4096x1x1024 .f32) (hx : m (c, Proc.devRef .tc main_arg0) = x) (wg : FVec Ideal S1024x1024x3 .f32) (hwg : m (c, Proc.devRef .tc main_arg1) = wg) (wl : FVec Ideal S1024x1024x3 .f32) (hwl : m (c, Proc.devRef .tc main_arg7) = wl) (i : Fin 4096) (d : Fin 1024) (h : d.val < 2048) :
    unitV m c i ⟨d.val, h⟩ = hid (fun i k => x (ix3 i 0 k)) (fun d k s => wg (ix3 d k s)) i d := by
  unfold unitV hid
  simp only [v65_at m c x hx, v55_at m c x hx, v67_at m c x hx, v69_at m c wg hwg wl hwl, v59_at m c wg hwg wl hwl, v71_at m c wg hwg wl hwl, tapPair_left]

/-- The last 1024 hidden units the kernel computes are the second head's. -/
theorem unitV_right (c : Dev nD) (x : FVec Ideal S4096x1x1024 .f32) (hx : m (c, Proc.devRef .tc main_arg0) = x) (wg : FVec Ideal S1024x1024x3 .f32) (hwg : m (c, Proc.devRef .tc main_arg1) = wg) (wl : FVec Ideal S1024x1024x3 .f32) (hwl : m (c, Proc.devRef .tc main_arg7) = wl) (i : Fin 4096) (d : Fin 1024) (h : 1024 + d.val < 2048) :
    unitV m c i ⟨1024 + d.val, h⟩ = hid (fun i k => x (ix3 i 0 k)) (fun d k s => wl (ix3 d k s)) i d := by
  unfold unitV hid
  simp only [v65_at m c x hx, v55_at m c x hx, v67_at m c x hx, v69_at m c wg hwg wl hwl, v59_at m c wg hwg wl hwl, v71_at m c wg hwg wl hwl, tapPair_right]

/-- A score of the kernel's first head is the score of the residual layer. -/
theorem scoreG_eq (c : Dev nD) (x : FVec Ideal S4096x1x1024 .f32) (hx : m (c, Proc.devRef .tc main_arg0) = x) (wg : FVec Ideal S1024x1024x3 .f32) (hwg : m (c, Proc.devRef .tc main_arg1) = wg) (wl : FVec Ideal S1024x1024x3 .f32) (hwl : m (c, Proc.devRef .tc main_arg7) = wl) (w1 : FVec Ideal S1024x1024x1 .f32) (hw1 : m (c, Proc.devRef .tc main_arg3) = w1) (b1 : FVec Ideal S1024 .f32) (hb1 : m (c, Proc.devRef .tc main_arg4) = b1) (wo : FVec Ideal S48x1024x1 .f32) (hwo : m (c, Proc.devRef .tc main_arg5) = wo) (bo : FVec Ideal S48 .f32) (hbo : m (c, Proc.devRef .tc main_arg6) = bo)
    (rx : ∀ i, IsReal (x i)) (rwd : ∀ i, IsReal (wg i)) (rw1 : ∀ i, IsReal (w1 i)) (rwo : ∀ i, IsReal (wo i)) (i : Fin 4096) (n : Fin 48) :
    scoreG m c i n = layerScore (fun k => x (ix3 i 0 k)) (hid (fun i k => x (ix3 i 0 k)) (fun d k s => wg (ix3 d k s)) i)
      (fun e => wo (ix3 n e 0)) (fun e => b1 (ix1 e)) (fun e d => w1 (ix3 e d 0)) (bo (ix1 n)) := by
  rw [← score_fold (fun i k => x (ix3 i 0 k)) (fun d k s => wg (ix3 d k s)) (fun e d => w1 (ix3 e d 0)) (fun e => b1 (ix1 e)) (fun e => wo (ix3 n e 0)) (bo (ix1 n))
    (fun _ _ => rx _) (fun _ _ _ => rwd _) (fun _ _ => rw1 _) (fun _ => rwo _)]
  unfold scoreG
  simp only [v55_at m c x hx, v72_at m c wo hwo, v78_at m c wo hwo w1 hw1, v48_at m c wo hwo b1 hb1 bo hbo, unitV_left m c x hx wg hwg wl hwl]

/-- The kernel's first array, one axis added, is the reference's first array of scores, when the convolution's bias is zero. -/
theorem arrayG_eq (c : Dev nD) (x : FVec Ideal S4096x1x1024 .f32) (hx : m (c, Proc.devRef .tc main_arg0) = x) (wg : FVec Ideal S1024x1024x3 .f32) (hwg : m (c, Proc.devRef .tc main_arg1) = wg) (wl : FVec Ideal S1024x1024x3 .f32) (hwl : m (c, Proc.devRef .tc main_arg7) = wl) (w1 : FVec Ideal S1024x1024x1 .f32) (hw1 : m (c, Proc.devRef .tc main_arg3) = w1) (b1 : FVec Ideal S1024 .f32) (hb1 : m (c, Proc.devRef .tc main_arg4) = b1) (wo : FVec Ideal S48x1024x1 .f32) (hwo : m (c, Proc.devRef .tc main_arg5) = wo) (bo : FVec Ideal S48 .f32) (hbo : m (c, Proc.devRef .tc main_arg6) = bo)
    (bd : FVec Ideal S1024 .f32) (zbd : ∀ i, bd i = (0 : EReal)) (rx : ∀ i, IsReal (x i)) (rwd : ∀ i, IsReal (wg i)) (rw1 : ∀ i, IsReal (w1 i)) (rwo : ∀ i, IsReal (wo i)) :
    broadcastInDim S4096x1x48 ![0, 2] Facts₀.bcast_S4096x48_S4096x1x48_0_2 (arrG m c)
      = refG (F := Ideal) x wg bd w1 b1 wo bo := by
  funext z
  idx_vars z
  refine Eq.trans ?_ (refG_at x wg bd w1 b1 wo bo (fun _ => zbd _) _ _ _).symm
  refine Eq.trans ?_ (scoreG_eq m c x hx wg hwg wl hwl w1 hw1 b1 hb1 wo hwo bo hbo rx rwd rw1 rwo _ _)
  pointwise [arrG]

/-- A score of the kernel's second head is the score of the residual layer. -/
theorem scoreL_eq (c : Dev nD) (x : FVec Ideal S4096x1x1024 .f32) (hx : m (c, Proc.devRef .tc main_arg0) = x) (wg : FVec Ideal S1024x1024x3 .f32) (hwg : m (c, Proc.devRef .tc main_arg1) = wg) (wl : FVec Ideal S1024x1024x3 .f32) (hwl : m (c, Proc.devRef .tc main_arg7) = wl) (w1 : FVec Ideal S1024x1024x1 .f32) (hw1 : m (c, Proc.devRef .tc main_arg9) = w1) (b1 : FVec Ideal S1024 .f32) (hb1 : m (c, Proc.devRef .tc main_arg10) = b1) (wo : FVec Ideal S65x1024x1 .f32) (hwo : m (c, Proc.devRef .tc main_arg11) = wo) (bo : FVec Ideal S65 .f32) (hbo : m (c, Proc.devRef .tc main_arg12) = bo)
    (rx : ∀ i, IsReal (x i)) (rwd : ∀ i, IsReal (wl i)) (rw1 : ∀ i, IsReal (w1 i)) (rwo : ∀ i, IsReal (wo i)) (i : Fin 4096) (n : Fin 65) :
    scoreL m c i ⟨n.val, by omega⟩ = layerScore (fun k => x (ix3 i 0 k)) (hid (fun i k => x (ix3 i 0 k)) (fun d k s => wl (ix3 d k s)) i)
      (fun e => wo (ix3 n e 0)) (fun e => b1 (ix1 e)) (fun e d => w1 (ix3 e d 0)) (bo (ix1 n)) := by
  rw [← score_fold (fun i k => x (ix3 i 0 k)) (fun d k s => wl (ix3 d k s)) (fun e d => w1 (ix3 e d 0)) (fun e => b1 (ix1 e)) (fun e => wo (ix3 n e 0)) (bo (ix1 n))
    (fun _ _ => rx _) (fun _ _ _ => rwd _) (fun _ _ => rw1 _) (fun _ => rwo _)]
  unfold scoreL
  simp only [v55_at m c x hx, v75_at m c wo hwo, v83_at m c wo hwo w1 hw1, v85_at m c wo hwo b1 hb1 bo hbo, unitV_right m c x hx wg hwg wl hwl]

/-- The kernel's second array, one axis added, is the reference's second array of scores, when the convolution's bias is zero. -/
theorem arrayL_eq (c : Dev nD) (x : FVec Ideal S4096x1x1024 .f32) (hx : m (c, Proc.devRef .tc main_arg0) = x) (wg : FVec Ideal S1024x1024x3 .f32) (hwg : m (c, Proc.devRef .tc main_arg1) = wg) (wl : FVec Ideal S1024x1024x3 .f32) (hwl : m (c, Proc.devRef .tc main_arg7) = wl) (w1 : FVec Ideal S1024x1024x1 .f32) (hw1 : m (c, Proc.devRef .tc main_arg9) = w1) (b1 : FVec Ideal S1024 .f32) (hb1 : m (c, Proc.devRef .tc main_arg10) = b1) (wo : FVec Ideal S65x1024x1 .f32) (hwo : m (c, Proc.devRef .tc main_arg11) = wo) (bo : FVec Ideal S65 .f32) (hbo : m (c, Proc.devRef .tc main_arg12) = bo)
    (bd : FVec Ideal S1024 .f32) (zbd : ∀ i, bd i = (0 : EReal)) (rx : ∀ i, IsReal (x i)) (rwd : ∀ i, IsReal (wl i)) (rw1 : ∀ i, IsReal (w1 i)) (rwo : ∀ i, IsReal (wo i)) :
    broadcastInDim S4096x1x65 ![0, 2] Facts₀.bcast_S4096x65_S4096x1x65_0_2 (extractStridedSlice S4096x65 ![0, 0] (arrL m c) Facts₀.slices_S4096x128_S4096x65_0_0)
      = refL (F := Ideal) x wl bd w1 b1 wo bo := by
  funext z
  idx_vars z
  refine Eq.trans ?_ (refL_at x wl bd w1 b1 wo bo (fun _ => zbd _) _ _ _).symm
  refine Eq.trans ?_ (scoreL_eq m c x hx wg hwg wl hwl w1 hw1 b1 hb1 wo hwo bo hbo rx rwd rw1 rwo _ _)
  pointwise [arrL]

end Cert.Pool

end
-- ==== Proof.Pool.Region.lean ====
/- What the kernel holds after its region, and how its results are read from there. -/
module

public import proofs.«01_k».proof.Proof.Pool.Equation

@[expose] public section

set_option maxRecDepth 16384

noncomputable section

namespace Cert.Pool

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- What the device holds when the region has run: its arrays, and everything else as before. -/
def regionEnd (c : Dev nD) : Valuation τ sig (Elt Ideal) :=
  Pipeline.withArrays spec0 c (V0 m c) fun w => (dats m 0 c).arrAt w cfg0.N

/-- What the device holds before the last line of host operations. -/
def beforeLast (c : Dev nD) : Valuation τ sig (Elt Ideal) :=
  after hostOps1_5 (after hostOps1_4 (after hostOps1_3 (after hostOps1_2 (after hostOps1_1 (after hostOps1 (regionEnd m c))))))

/-- A buffer outside the region's arrays ends as the last line of host operations leaves it. -/
theorem tail_read (c : Dev nD) (b : Ref sig .tc) :
    Pipeline.afterTail₀ cfgs (dats m) 0 (V0 m) [hostOps1, hostOps1_1, hostOps1_2, hostOps1_3, hostOps1_4, hostOps1_5, hostOps1_6] c b
      = after hostOps1_6 (beforeLast m c) (Proc.devRef .tc b) := by
  unfold Pipeline.afterTail₀ beforeLast
  simp only [List.flatten_cons, List.flatten_nil, List.append_nil, after_append]
  rfl

/-- The first array of scores when the region has run. -/
theorem regionEnd_G (c : Dev nD) : regionEnd m c (Proc.devRef .tc main_v86_0) = arrG m c :=
  (Pipeline.withArrays_arr spec0 winFacts0.arr_inj c (V0 m c) (fun w => (dats m 0 c).arrAt w cfg0.N) 12).trans (final12 m c)

/-- The second array of scores when the region has run. -/
theorem regionEnd_L (c : Dev nD) : regionEnd m c (Proc.devRef .tc main_v86_1) = arrL m c :=
  (Pipeline.withArrays_arr spec0 winFacts0.arr_inj c (V0 m c) (fun w => (dats m 0 c).arrAt w cfg0.N) 13).trans (final13 m c)

/-- The features are the same before the last line as at the launch. -/
theorem beforeLast_arg0 (c : Dev nD) : beforeLast m c (Proc.devRef .tc main_arg0) = m (c, Proc.devRef .tc main_arg0) := by
  unfold beforeLast regionEnd
  rw [after_of_writes_sub (r := main_arg0) hostOps1_5 _ hostOps1_5_writes (by decide +kernel),
    after_of_writes_sub (r := main_arg0) hostOps1_4 _ hostOps1_4_writes (by decide +kernel),
    after_of_writes_sub (r := main_arg0) hostOps1_3 _ hostOps1_3_writes (by decide +kernel),
    after_of_writes_sub (r := main_arg0) hostOps1_2 _ hostOps1_2_writes (by decide +kernel),
    after_of_writes_sub (r := main_arg0) hostOps1_1 _ hostOps1_1_writes (by decide +kernel),
    after_of_writes_sub (r := main_arg0) hostOps1 _ hostOps1_writes (by decide +kernel),
    Pipeline.withArrays_of_ne _ c (V0 m c) _ main_arg0 (by exact (by decide : ∀ w, Pipeline.arrRef spec0 w ≠ main_arg0))]
  exact V_main_arg0 m c

end Cert.Pool

end
-- ==== Proof.Pool.Tail.lean ====
/- The host operations after the heads: softmax over the window, the sum over 64 shifts, the top tokens, their rows. -/
module

public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import Idealize.ShloMosaic.Lib.Claim
public import Idealize.ShloMosaic.Lib.StableHlo.ReadAt
public import proofs.«01_k».proof.Proof.Pool.RefHead

@[expose] public section

noncomputable section

namespace Cert.Pool

open Idealize.ShloMosaic Idealize.SL.Sem Idealize.ShloMosaic.StableHlo

variable {F : FTy → Type} [FloatOps F]

set_option maxRecDepth 16384 in
set_option maxHeartbeats 4000000 in
/-- From the same padded scores `P`, both programs compute the same phases and so the same top tokens. -/
theorem indices_eq (V : Valuation Cert.KernelIdeal.τ Cert.KernelIdeal.sig (Elt F))
    (V0 : Valuation Cert.ReferenceIdeal.τ Cert.ReferenceIdeal.sig (Elt F))
    (P : (⟨Cert.KernelIdeal.S1x4160x48x65, .f32⟩ : BufTy).Contents (Elt F))
    (hk : V (Proc.devRef .tc Cert.KernelIdeal.main_v124) = P)
    (hr : Cert.ReferenceIdeal.Value.res_main_v108 V0 = P) :
    after Cert.KernelIdeal.Gen.hostOps1_6 V (Proc.devRef .tc Cert.KernelIdeal.main_indices)
      = (Host.topK Cert.ReferenceIdeal.S1x128 1 (FloatOps.cmpfTotal .gt) (Cert.ReferenceIdeal.Value.res_main_v240 V0) Cert.ReferenceIdeal.Facts₀.sliceFits_S1x4096_S1x128).2 := by
  unfold Cert.ReferenceIdeal.Value.res_main_v240 Cert.ReferenceIdeal.Value.res_main_v176
  after_reads_simp
  rw [hk, hr]

set_option maxRecDepth 16384 in
set_option maxHeartbeats 4000000 in
/-- From the same padded scores and the same features, both programs gather the same rows. -/
theorem gathered_eq (V : Valuation Cert.KernelIdeal.τ Cert.KernelIdeal.sig (Elt F))
    (V0 : Valuation Cert.ReferenceIdeal.τ Cert.ReferenceIdeal.sig (Elt F))
    (P : (⟨Cert.KernelIdeal.S1x4160x48x65, .f32⟩ : BufTy).Contents (Elt F))
    (X : (⟨Cert.KernelIdeal.S4096x1x1024, .f32⟩ : BufTy).Contents (Elt F))
    (hk : V (Proc.devRef .tc Cert.KernelIdeal.main_v124) = P)
    (hr : Cert.ReferenceIdeal.Value.res_main_v108 V0 = P)
    (hX : V (Proc.devRef .tc Cert.KernelIdeal.main_arg0) = X)
    (hX' : V0 (Proc.devRef .tc Cert.ReferenceIdeal.main_arg0) = X) :
    after Cert.KernelIdeal.Gen.hostOps1_6 V (Proc.devRef .tc Cert.KernelIdeal.main_v264)
      = after Cert.ReferenceIdeal.Value.ops V0 (Proc.devRef .tc Cert.ReferenceIdeal.main_v248) := by
  rw [Cert.ReferenceIdeal.Value.after_ops, Cert.ReferenceIdeal.Value.val5_main_v248]
  unfold Cert.ReferenceIdeal.Value.res_main_v241 Cert.ReferenceIdeal.Value.res_main_v240 Cert.ReferenceIdeal.Value.res_main_v176
  after_reads_simp
  rw [hk, hr, hX, hX']
  rfl

set_option maxRecDepth 16384 in
set_option maxHeartbeats 4000000 in
/-- From the same scores before the softmax, both programs compute the same padded scores. -/
theorem padded_eq (V : Valuation Cert.KernelIdeal.τ Cert.KernelIdeal.sig (Elt F))
    (V0 : Valuation Cert.ReferenceIdeal.τ Cert.ReferenceIdeal.sig (Elt F))
    (hG : broadcastInDim Cert.KernelIdeal.S4096x1x48 ![0, 2] Cert.KernelIdeal.Facts₀.bcast_S4096x48_S4096x1x48_0_2 (V (Proc.devRef .tc Cert.KernelIdeal.main_v86_0))
      = refG (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)))
    (hL : broadcastInDim Cert.KernelIdeal.S4096x1x65 ![0, 2] Cert.KernelIdeal.Facts₀.bcast_S4096x65_S4096x1x65_0_2 (extractStridedSlice Cert.KernelIdeal.S4096x65 ![0, 0] (V (Proc.devRef .tc Cert.KernelIdeal.main_v86_1)) Cert.KernelIdeal.Facts₀.slices_S4096x128_S4096x65_0_0)
      = refL (V0 (Proc.devRef .tc Cert.ReferenceIdeal.main_arg0)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) (V0 (Proc.devRef .tc Cert.ReferenceIdeal.main_arg12))) :
    after Cert.KernelIdeal.Gen.hostOps1_5 (after Cert.KernelIdeal.Gen.hostOps1_4 (after Cert.KernelIdeal.Gen.hostOps1_3 (after Cert.KernelIdeal.Gen.hostOps1_2
      (after Cert.KernelIdeal.Gen.hostOps1_1 (after Cert.KernelIdeal.Gen.hostOps1 V))))) (Proc.devRef .tc Cert.KernelIdeal.main_v124)
      = Cert.ReferenceIdeal.Value.res_main_v108 V0 := by
  unfold Cert.ReferenceIdeal.Value.res_main_v108 Cert.ReferenceIdeal.Value.res_main_v105 Cert.ReferenceIdeal.Value.res_main_v101
  after_reads_at
  rw [hG, hL]
  rfl

end Cert.Pool

end
-- ==== Proof.Pool.Tame.lean ====
/- What the precondition says of each argument: two biases are zero, the features and the weights are real numbers. -/
module

public import proofs.«01_k».proof.Pre_tame
public import Idealize.ShloMosaic.Lib.ReduceAll
public import Idealize.ShloMosaic.Lib.Affine
public import proofs.«01_k».proof.Proof.Pool.Spec

@[expose] public section

set_option maxRecDepth 16384

noncomputable section

namespace Cert.Pool

open Idealize.ShloMosaic
open Cert.Pre_tame

/-- A value whose absolute value lies below infinity is a real number. -/
theorem real_of_lt (a : EReal) (h : Ideal.cmp .olt (max a (-a)) (Ideal.ofBits .f32 0x7F800000#32) = 1#1) : IsReal a := by
  have top : Ideal.ofBits .f32 0x7F800000#32 = (⊤ : EReal) := by simp [Ideal.ofBits, Ideal.ieee]
  rw [top] at h
  induction a with
  | bot => simp [Ideal.cmp] at h
  | coe r => exact ⟨r, rfl⟩
  | top => simp [Ideal.cmp] at h

/-- A value that compares equal to zero is zero. -/
theorem zero_of_eq (a : EReal) (h : Ideal.cmp .oeq a (Ideal.ofBits .f32 0x00000000#32) = 1#1) : a = 0 := by
  have zero : Ideal.ofBits .f32 0x00000000#32 = (0 : EReal) := by simp [Ideal.ofBits, Ideal.ieee]
  rw [zero] at h
  by_contra hn
  simp [Ideal.cmp, hn] at h

/-- An array all of whose absolute values lie below infinity, by the printed test, holds real numbers. -/
theorem all_real {s : Shape} {axes : List (Fin s.rank)} (a : FVec Ideal s .f32) (hb : S_.BroadcastsInDim s (![] : Fin 0 → Fin s.rank)) (hr : s.ReducesTo axes S_) (hu : 0 < S_.numel)
    (j : S_.Idx) (e : Host.reduce IntOp.andi (cmpf .olt (Host.absf a) (broadcastInDim s ![] hb (constant S_ .f32 0x7F800000#32))) (constantI S_ 1 1#1) hr hu j = 1#1) (i : s.Idx) : IsReal (a i) := by
  have : Subsingleton S_.Idx := ⟨fun x y => funext fun k => k.elim0⟩
  exact real_of_lt _ (Host.reduce_andi_all _ _ hr hu j e i)

/-- An array all of whose elements compare equal to zero, by the printed test, is zero. -/
theorem all_zero {s : Shape} {axes : List (Fin s.rank)} (a : FVec Ideal s .f32) (hb : S_.BroadcastsInDim s (![] : Fin 0 → Fin s.rank)) (hr : s.ReducesTo axes S_) (hu : 0 < S_.numel)
    (j : S_.Idx) (e : Host.reduce IntOp.andi (cmpf .oeq a (broadcastInDim s ![] hb (constant S_ .f32 0x00000000#32))) (constantI S_ 1 1#1) hr hu j = 1#1) (i : s.Idx) : a i = (0 : EReal) := by
  have : Subsingleton S_.Idx := ⟨fun x y => funext fun k => k.elim0⟩
  exact zero_of_eq _ (Host.reduce_andi_all _ _ hr hu j e i)

variable [Facts]

/-- The precondition, read: the biases of both convolutions are zero, the features and all the weights are real numbers. -/
theorem tame_reads (a0 : FVec Ideal S4096x1x1024 .f32) (a1 : FVec Ideal S1024x1024x3 .f32) (a2 : FVec Ideal S1024 .f32) (a3 : FVec Ideal S1024x1024x1 .f32) (a4 : FVec Ideal S1024 .f32) (a5 : FVec Ideal S48x1024x1 .f32) (a6 : FVec Ideal S48 .f32) (a7 : FVec Ideal S1024x1024x3 .f32) (a8 : FVec Ideal S1024 .f32) (a9 : FVec Ideal S1024x1024x1 .f32) (a10 : FVec Ideal S1024 .f32) (a11 : FVec Ideal S65x1024x1 .f32) (a12 : FVec Ideal S65 .f32)
    (j : S_.Idx) (h : Cert.Pre_tame.fn a0 a1 a2 a3 a4 a5 a6 a7 a8 a9 a10 a11 a12 j = 1#1) :
    (∀ i, a2 i = (0 : EReal)) ∧ (∀ i, a8 i = (0 : EReal)) ∧ (∀ i, IsReal (a0 i)) ∧ (∀ i, IsReal (a1 i)) ∧ (∀ i, IsReal (a3 i)) ∧ (∀ i, IsReal (a5 i)) ∧ (∀ i, IsReal (a7 i)) ∧ (∀ i, IsReal (a9 i)) ∧ (∀ i, IsReal (a11 i)) := by
  dsimp only [fn, fn_part1, fn_part2, andi] at h
  simp only [IntOp.andi_eq_one] at h
  obtain ⟨⟨⟨⟨⟨⟨⟨⟨h2, h8⟩, h0⟩, h1⟩, h3⟩, h5⟩, h7⟩, h9⟩, h11⟩ := h
  exact ⟨all_zero a2 _ _ _ j h2, all_zero a8 _ _ _ j h8, all_real a0 _ _ _ j h0, all_real a1 _ _ _ j h1, all_real a3 _ _ _ j h3, all_real a5 _ _ _ j h5, all_real a7 _ _ _ j h7, all_real a9 _ _ _ j h9, all_real a11 _ _ _ j h11⟩

end Cert.Pool

end
-- ==== Proof.Pool.Algebraic.lean ====
/- Both programs end with the same two results. -/
module

public import proofs.«01_k».proof.Defs
public import proofs.«01_k».proof.Proof.Gen.Pre_tame
public import proofs.«01_k».proof.Proof.Pool.Region
public import proofs.«01_k».proof.Proof.Pool.Tail
public import proofs.«01_k».proof.Proof.Pool.Tame

@[expose] public section

set_option maxRecDepth 16384

noncomputable section

namespace Cert.Pool

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

attribute [local instance] Cert.KernelIdeal.Gen.facts Cert.ReferenceIdeal.Gen.facts Cert.Pre_tame.Gen.facts

/-- Under the precondition, and from the same arguments, both programs compute the same padded scores. -/
theorem padded_same (hpre : Cert.Pre_KernelIdeal_tame m) (c : Dev nD) (Vr : Valuation Cert.ReferenceIdeal.τ Cert.ReferenceIdeal.sig (Elt Ideal))
    (h : Vr (Proc.devRef .tc Cert.ReferenceIdeal.main_arg0) = m (c, Proc.devRef .tc main_arg0) ∧ Vr (Proc.devRef .tc Cert.ReferenceIdeal.main_arg1) = m (c, Proc.devRef .tc main_arg1) ∧ Vr (Proc.devRef .tc Cert.ReferenceIdeal.main_arg2) = m (c, Proc.devRef .tc main_arg2) ∧ Vr (Proc.devRef .tc Cert.ReferenceIdeal.main_arg3) = m (c, Proc.devRef .tc main_arg3) ∧ Vr (Proc.devRef .tc Cert.ReferenceIdeal.main_arg4) = m (c, Proc.devRef .tc main_arg4) ∧ Vr (Proc.devRef .tc Cert.ReferenceIdeal.main_arg5) = m (c, Proc.devRef .tc main_arg5) ∧ Vr (Proc.devRef .tc Cert.ReferenceIdeal.main_arg6) = m (c, Proc.devRef .tc main_arg6) ∧ Vr (Proc.devRef .tc Cert.ReferenceIdeal.main_arg7) = m (c, Proc.devRef .tc main_arg7) ∧ Vr (Proc.devRef .tc Cert.ReferenceIdeal.main_arg8) = m (c, Proc.devRef .tc main_arg8) ∧ Vr (Proc.devRef .tc Cert.ReferenceIdeal.main_arg9) = m (c, Proc.devRef .tc main_arg9) ∧ Vr (Proc.devRef .tc Cert.ReferenceIdeal.main_arg10) = m (c, Proc.devRef .tc main_arg10) ∧ Vr (Proc.devRef .tc Cert.ReferenceIdeal.main_arg11) = m (c, Proc.devRef .tc main_arg11) ∧ Vr (Proc.devRef .tc Cert.ReferenceIdeal.main_arg12) = m (c, Proc.devRef .tc main_arg12)) :
    beforeLast m c (Proc.devRef .tc main_v124) = Cert.ReferenceIdeal.Value.res_main_v108 Vr := by
  obtain ⟨z2, z8, r0, r1, r3, r5, r7, r9, r11⟩ := tame_reads _ _ _ _ _ _ _ _ _ _ _ _ _ (fun k => k.elim0) (congrFun (hpre c) _)
  obtain ⟨e0, e1, e2, e3, e4, e5, e6, e7, e8, e9, e10, e11, e12⟩ := h
  refine padded_eq (regionEnd m c) Vr ?_ ?_
  · rw [regionEnd_G, e0, e1, e2, e3, e4, e5, e6]
    exact arrayG_eq m c _ rfl _ rfl _ rfl _ rfl _ rfl _ rfl _ rfl _ z2 r0 r1 r3 r5
  · rw [regionEnd_L, e0, e7, e8, e9, e10, e11, e12]
    exact arrayL_eq m c _ rfl _ rfl _ rfl _ rfl _ rfl _ rfl _ rfl _ z8 r0 r7 r9 r11

/-- From the same arguments and under the precondition, both programs end with the same rows and the same indices. -/
theorem algebraic : Cert.algebraic_KernelIdeal_ReferenceIdeal_pre_tame := by
  intro m g m' g' hpre hagree
  have hpad := fun c => padded_same m hpre c (launchContents m' c) (hagree c)
  refine ⟨fun c => after Cert.ReferenceIdeal.Value.ops (launchContents m' c) (Proc.devRef .tc Cert.ReferenceIdeal.main_v248),
    fun c => (Host.topK Cert.ReferenceIdeal.S1x128 1 (FloatOps.cmpfTotal .gt) (Cert.ReferenceIdeal.Value.res_main_v240 (launchContents m' c)) Cert.ReferenceIdeal.Facts₀.sliceFits_S1x4096_S1x128).2, ?_, ?_⟩
  · exact θ_run_mono (θ_run_and (run_main m g) (unchanged m g)) fun r h c =>
      ⟨((h.1 c).2 main_v264 (Pipeline.mem_restRefs_of main_v264 (by decide) (by decide))).trans ((tail_read m c main_v264).trans
          (gathered_eq (beforeLast m c) (launchContents m' c) _ _ (hpad c) rfl (beforeLast_arg0 m c) (hagree c).1)),
        ((h.1 c).2 main_indices (Pipeline.mem_restRefs_of main_indices (by decide) (by decide))).trans ((tail_read m c main_indices).trans
          (indices_eq (beforeLast m c) (launchContents m' c) _ (hpad c) rfl)),
        h.2 c⟩
  · exact θ_run_mono (Cert.ReferenceIdeal.Value.run m' g') fun r h c =>
      ⟨(h c).1.trans ((congrFun (Cert.ReferenceIdeal.Value.after_ops _) _).trans (Cert.ReferenceIdeal.Value.val5_main_v248 _)).symm, (h c).2.1, (h c).2.2⟩

end Cert.Pool

end
-- ==== Proof.lean ====
/- The certificate: the frames of all three programs, that the ideal kernel is the kernel, and that it ends with the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.Pool.Algebraic
public import Idealize.ShloMosaic.Adequacy
public import Idealize.ShloMosaic.Init

@[expose] public section

noncomputable section

namespace Cert.Proof

open Idealize.ShloMosaic Idealize.SL.Sem Cert.Kernel

/-- The reference, over the extended reals, terminates, leaves its arguments unchanged and every counter at zero. -/
theorem frame_ri : Cert.quiescent_ReferenceIdeal := fun m g _ =>
  θ_run_mono (Cert.ReferenceIdeal.Value.run m g) fun r h => ⟨fun c => (h c).2.2, sem_eq_zero_of_no_sems rfl _⟩

/-- Kernel and reference end with the same results, where the features and the weights are finite and the dilated
    convolutions' biases are zero. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  frame_ri, fun m g _ => frame_ri m g trivial, trivial, Cert.Pool.algebraic⟩

end Cert.Proof

end
